-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "span" .f32 0x40000000#32 ((33554431 / 16777216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6x256x16x44 : Shape := ⟨5, ![2, 6, 256, 16, 44]⟩
abbrev S2x6x3x3 : Shape := ⟨4, ![2, 6, 3, 3]⟩
abbrev S2x6x3 : Shape := ⟨3, ![2, 6, 3]⟩
abbrev S139x256 : Shape := ⟨2, ![139, 256]⟩
abbrev S139 : Shape := ⟨1, ![139]⟩
abbrev S2x80x128x128 : Shape := ⟨4, ![2, 80, 128, 128]⟩
abbrev S1x16x128x128 : Shape := ⟨4, ![1, 16, 128, 128]⟩
abbrev S16x128x128 : Shape := ⟨3, ![16, 128, 128]⟩

abbrev nBuf : Space → Nat
  | .hbm => 7
  | .vmem => 2
  | .smem => 0
  | _ => 0

abbrev bufTy : (tb : Table) → Fin (tcTables nBuf tb) → BufTy
  | .hbm, ⟨0, _⟩ => ⟨S2x6x256x16x44, .f32⟩
  | .hbm, ⟨1, _⟩ => ⟨S2x6x3x3, .f32⟩
  | .hbm, ⟨2, _⟩ => ⟨S2x6x3, .f32⟩
  | .hbm, ⟨3, _⟩ => ⟨S2x6x3x3, .f32⟩
  | .hbm, ⟨4, _⟩ => ⟨S139x256, .f32⟩
  | .hbm, ⟨5, _⟩ => ⟨S139, .f32⟩
  | .hbm, ⟨6, _⟩ => ⟨S2x80x128x128, .f32⟩
  | .local _ .vmem, ⟨0, _⟩ => ⟨S1x16x128x128, .f32⟩
  | .local _ .vmem, ⟨1, _⟩ => ⟨S1x16x128x128, .f32⟩
  | _, _ => ⟨S2x6x256x16x44, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== KernelIdeal.lean ====
variable {F : FTy → Type} [FloatOps F] [Named F]
def κ : String → Option EReal := fun
  | "span" => some ((33554431 / 16777216 : ℝ) : EReal)
  | _ => none
-- ==== ReferenceIdeal.lean ====
abbrev S2x6x256x16x44 : Shape := ⟨5, ![2, 6, 256, 16, 44]⟩
abbrev S2x6x3x3 : Shape := ⟨4, ![2, 6, 3, 3]⟩
abbrev S2x6x3 : Shape := ⟨3, ![2, 6, 3]⟩
abbrev S139x256 : Shape := ⟨2, ![139, 256]⟩
abbrev S139 : Shape := ⟨1, ![139]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S2x80x128x128 : Shape := ⟨4, ![2, 80, 128, 128]⟩

abbrev nBuf : Space → Nat
  | .hbm => 376
  | .vmem => 0
  | .smem => 0
  | _ => 0

abbrev hbmTy0_0 (i : Nat) : BufTy := match i % 128 with
  | 0 => ⟨S2x6x256x16x44, .f32⟩
  | 1 => ⟨S2x6x3x3, .f32⟩
  | 2 => ⟨S2x6x3, .f32⟩
  | 3 => ⟨S2x6x3x3, .f32⟩
  | 4 => ⟨S139x256, .f32⟩
  | 5 => ⟨S139, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S1x1x1x1, .f32⟩
  | 19 => ⟨S1x1x1x1, .f32⟩
  | 20 => ⟨S1, .i32⟩
  | 21 => ⟨S_, .i32⟩
  | 22 => ⟨S1, .i32⟩
  | 23 => ⟨S_, .i32⟩
  | 24 => ⟨S2x80x128x128, .i64⟩
  | 25 => ⟨S2x80x128x128, .i64⟩
  | 26 => ⟨S2x80x128x128, .i64⟩
  | 27 => ⟨S2x80x128x128, .i64⟩
  | 28 => ⟨S_, .i64⟩
  | 29 => ⟨S2x80x128x128, .i64⟩
  | 30 => ⟨S2x80x128x128, .i64⟩
  | 31 => ⟨S_, .i64⟩
  | 32 => ⟨S2x80x128x128, .i64⟩
  | 33 => ⟨S2x80x128x128, .i64⟩
  | 34 => ⟨S_, .i64⟩
  | 35 => ⟨S2x80x128x128, .i64⟩
  | 36 => ⟨S2x80x128x128, .i64⟩
  | 37 => ⟨S_, .i64⟩
  | 38 => ⟨S2x80x128x128, .i64⟩
  | 39 => ⟨S2x80x128x128, .i64⟩
  | 40 => ⟨S2x80x128x128, .i64⟩
  | 41 => ⟨S2x80x128x128, .i64⟩
  | 42 => ⟨S2x80x128x128, .i64⟩
  | 43 => ⟨S_, .i64⟩
  | 44 => ⟨S2x80x128x128, .i64⟩
  | 45 => ⟨S2x80x128x128, .i64⟩
  | 46 => ⟨S2x80x128x128, .i32⟩
  | 47 => ⟨S2x80x128x128, .i32⟩
  | 48 => ⟨S_, .i32⟩
  | 49 => ⟨S_, .i32⟩
  | 50 => ⟨S_, .i32⟩
  | 51 => ⟨S2x80x128x128, .i32⟩
  | 52 => ⟨S2x80x128x128, .i32⟩
  | 53 => ⟨S2x80x128x128, .i32⟩
  | 54 => ⟨S2x80x128x128, .i32⟩
  | 55 => ⟨S2x80x128x128, .i32⟩
  | 56 => ⟨S_, .i32⟩
  | 57 => ⟨S2x80x128x128, .i32⟩
  | 58 => ⟨S2x80x128x128, .i32⟩
  | 59 => ⟨S_, .i32⟩
  | 60 => ⟨S2x80x128x128, .i32⟩
  | 61 => ⟨S2x80x128x128, .i32⟩
  | 62 => ⟨S2x80x128x128, .i32⟩
  | 63 => ⟨S2x80x128x128, .i32⟩
  | 64 => ⟨S2x80x128x128, .i32⟩
  | 65 => ⟨S_, .i32⟩
  | 66 => ⟨S2x80x128x128, .i32⟩
  | 67 => ⟨S2x80x128x128, .i32⟩
  | 68 => ⟨S_, .i32⟩
  | 69 => ⟨S2x80x128x128, .i32⟩
  | 70 => ⟨S2x80x128x128, .i32⟩
  | 71 => ⟨S2x80x128x128, .i32⟩
  | 72 => ⟨S2x80x128x128, .i32⟩
  | 73 => ⟨S2x80x128x128, .i32⟩
  | 74 => ⟨S_, .i32⟩
  | 75 => ⟨S2x80x128x128, .i32⟩
  | 76 => ⟨S2x80x128x128, .i32⟩
  | 77 => ⟨S_, .i32⟩
  | 78 => ⟨S2x80x128x128, .i32⟩
  | 79 => ⟨S2x80x128x128, .i32⟩
  | 80 => ⟨S2x80x128x128, .i32⟩
  | 81 => ⟨S2x80x128x128, .i32⟩
  | 82 => ⟨S2x80x128x128, .i32⟩
  | 83 => ⟨S_, .i32⟩
  | 84 => ⟨S2x80x128x128, .i32⟩
  | 85 => ⟨S2x80x128x128, .i32⟩
  | 86 => ⟨S_, .i32⟩
  | 87 => ⟨S2x80x128x128, .i32⟩
  | 88 => ⟨S2x80x128x128, .i32⟩
  | 89 => ⟨S2x80x128x128, .i32⟩
  | 90 => ⟨S2x80x128x128, .i32⟩
  | 91 => ⟨S2x80x128x128, .i32⟩
  | 92 => ⟨S2x80x128x128, .i32⟩
  | 93 => ⟨S2x80x128x128, .i32⟩
  | 94 => ⟨S2x80x128x128, .i32⟩
  | 95 => ⟨S_, .i32⟩
  | 96 => ⟨S2x80x128x128, .i32⟩
  | 97 => ⟨S2x80x128x128, .i32⟩
  | 98 => ⟨S2x80x128x128, .i32⟩
  | 99 => ⟨S_, .i32⟩
  | 100 => ⟨S2x80x128x128, .i32⟩
  | 101 => ⟨S2x80x128x128, .i32⟩
  | 102 => ⟨S_, .i32⟩
  | 103 => ⟨S2x80x128x128, .i32⟩
  | 104 => ⟨S2x80x128x128, .i32⟩
  | 105 => ⟨S2x80x128x128, .i32⟩
  | 106 => ⟨S2x80x128x128, .i32⟩
  | 107 => ⟨S2x80x128x128, .i32⟩
  | 108 => ⟨S_, .i32⟩
  | 109 => ⟨S2x80x128x128, .i32⟩
  | 110 => ⟨S2x80x128x128, .i32⟩
  | 111 => ⟨S_, .i32⟩
  | 112 => ⟨S2x80x128x128, .i32⟩
  | 113 => ⟨S2x80x128x128, .i32⟩
  | 114 => ⟨S2x80x128x128, .i32⟩
  | 115 => ⟨S2x80x128x128, .i32⟩
  | 116 => ⟨S2x80x128x128, .i32⟩
  | 117 => ⟨S_, .i32⟩
  | 118 => ⟨S2x80x128x128, .i32⟩
  | 119 => ⟨S2x80x128x128, .i32⟩
  | 120 => ⟨S_, .i32⟩
  | 121 => ⟨S2x80x128x128, .i32⟩
  | 122 => ⟨S2x80x128x128, .i32⟩
  | 123 => ⟨S2x80x128x128, .i32⟩
  | 124 => ⟨S2x80x128x128, .i32⟩
  | 125 => ⟨S2x80x128x128, .i32⟩
  | 126 => ⟨S_, .i32⟩
  | 127 => ⟨S2x80x128x128, .i32⟩
  | _ => ⟨S2x6x256x16x44, .f32⟩

abbrev hbmTy0_1 (i : Nat) : BufTy := match i % 128 with
  | 0 => ⟨S2x80x128x128, .i32⟩
  | 1 => ⟨S_, .i32⟩
  | 2 => ⟨S2x80x128x128, .i32⟩
  | 3 => ⟨S2x80x128x128, .i32⟩
  | 4 => ⟨S2x80x128x128, .i32⟩
  | 5 => ⟨S2x80x128x128, .i32⟩
  | 6 => ⟨S2x80x128x128, .i32⟩
  | 7 => ⟨S2x80x128x128, .i32⟩
  | 8 => ⟨S2x80x128x128, .i32⟩
  | 9 => ⟨S2x80x128x128, .i32⟩
  | 10 => ⟨S_, .i32⟩
  | 11 => ⟨S2x80x128x128, .i32⟩
  | 12 => ⟨S2x80x128x128, .i32⟩
  | 13 => ⟨S2x80x128x128, .i32⟩
  | 14 => ⟨S_, .i32⟩
  | 15 => ⟨S2x80x128x128, .i32⟩
  | 16 => ⟨S2x80x128x128, .i32⟩
  | 17 => ⟨S_, .i32⟩
  | 18 => ⟨S2x80x128x128, .i32⟩
  | 19 => ⟨S2x80x128x128, .i32⟩
  | 20 => ⟨S2x80x128x128, .i32⟩
  | 21 => ⟨S2x80x128x128, .i32⟩
  | 22 => ⟨S2x80x128x128, .i32⟩
  | 23 => ⟨S_, .i32⟩
  | 24 => ⟨S2x80x128x128, .i32⟩
  | 25 => ⟨S2x80x128x128, .i32⟩
  | 26 => ⟨S_, .i32⟩
  | 27 => ⟨S2x80x128x128, .i32⟩
  | 28 => ⟨S2x80x128x128, .i32⟩
  | 29 => ⟨S2x80x128x128, .i32⟩
  | 30 => ⟨S2x80x128x128, .i32⟩
  | 31 => ⟨S2x80x128x128, .i32⟩
  | 32 => ⟨S_, .i32⟩
  | 33 => ⟨S2x80x128x128, .i32⟩
  | 34 => ⟨S2x80x128x128, .i32⟩
  | 35 => ⟨S_, .i32⟩
  | 36 => ⟨S2x80x128x128, .i32⟩
  | 37 => ⟨S2x80x128x128, .i32⟩
  | 38 => ⟨S2x80x128x128, .i32⟩
  | 39 => ⟨S2x80x128x128, .i32⟩
  | 40 => ⟨S2x80x128x128, .i32⟩
  | 41 => ⟨S_, .i32⟩
  | 42 => ⟨S2x80x128x128, .i32⟩
  | 43 => ⟨S2x80x128x128, .i32⟩
  | 44 => ⟨S_, .i32⟩
  | 45 => ⟨S2x80x128x128, .i32⟩
  | 46 => ⟨S2x80x128x128, .i32⟩
  | 47 => ⟨S2x80x128x128, .i32⟩
  | 48 => ⟨S2x80x128x128, .i32⟩
  | 49 => ⟨S2x80x128x128, .i32⟩
  | 50 => ⟨S2x80x128x128, .i32⟩
  | 51 => ⟨S2x80x128x128, .i32⟩
  | 52 => ⟨S2x80x128x128, .i32⟩
  | 53 => ⟨S_, .i32⟩
  | 54 => ⟨S2x80x128x128, .i32⟩
  | 55 => ⟨S2x80x128x128, .i32⟩
  | 56 => ⟨S2x80x128x128, .i32⟩
  | 57 => ⟨S_, .i32⟩
  | 58 => ⟨S2x80x128x128, .i32⟩
  | 59 => ⟨S2x80x128x128, .i32⟩
  | 60 => ⟨S_, .i32⟩
  | 61 => ⟨S2x80x128x128, .i32⟩
  | 62 => ⟨S2x80x128x128, .i32⟩
  | 63 => ⟨S2x80x128x128, .i32⟩
  | 64 => ⟨S2x80x128x128, .i32⟩
  | 65 => ⟨S2x80x128x128, .i32⟩
  | 66 => ⟨S_, .i32⟩
  | 67 => ⟨S2x80x128x128, .i32⟩
  | 68 => ⟨S2x80x128x128, .i32⟩
  | 69 => ⟨S_, .i32⟩
  | 70 => ⟨S2x80x128x128, .i32⟩
  | 71 => ⟨S2x80x128x128, .i32⟩
  | 72 => ⟨S2x80x128x128, .i32⟩
  | 73 => ⟨S2x80x128x128, .i32⟩
  | 74 => ⟨S2x80x128x128, .i32⟩
  | 75 => ⟨S_, .i32⟩
  | 76 => ⟨S2x80x128x128, .i32⟩
  | 77 => ⟨S2x80x128x128, .i32⟩
  | 78 => ⟨S_, .i32⟩
  | 79 => ⟨S2x80x128x128, .i32⟩
  | 80 => ⟨S2x80x128x128, .i32⟩
  | 81 => ⟨S2x80x128x128, .i32⟩
  | 82 => ⟨S2x80x128x128, .i32⟩
  | 83 => ⟨S2x80x128x128, .i32⟩
  | 84 => ⟨S_, .i32⟩
  | 85 => ⟨S2x80x128x128, .i32⟩
  | 86 => ⟨S2x80x128x128, .i32⟩
  | 87 => ⟨S_, .i32⟩
  | 88 => ⟨S2x80x128x128, .i32⟩
  | 89 => ⟨S2x80x128x128, .i32⟩
  | 90 => ⟨S2x80x128x128, .i32⟩
  | 91 => ⟨S2x80x128x128, .i32⟩
  | 92 => ⟨S2x80x128x128, .i32⟩
  | 93 => ⟨S2x80x128x128, .i32⟩
  | 94 => ⟨S2x80x128x128, .i32⟩
  | 95 => ⟨S2x80x128x128, .i32⟩
  | 96 => ⟨S_, .i32⟩
  | 97 => ⟨S2x80x128x128, .i32⟩
  | 98 => ⟨S2x80x128x128, .i32⟩
  | 99 => ⟨S2x80x128x128, .i32⟩
  | 100 => ⟨S_, .i32⟩
  | 101 => ⟨S2x80x128x128, .i32⟩
  | 102 => ⟨S2x80x128x128, .i32⟩
  | 103 => ⟨S_, .i32⟩
  | 104 => ⟨S2x80x128x128, .i32⟩
  | 105 => ⟨S2x80x128x128, .i32⟩
  | 106 => ⟨S2x80x128x128, .i32⟩
  | 107 => ⟨S2x80x128x128, .i32⟩
  | 108 => ⟨S2x80x128x128, .i32⟩
  | 109 => ⟨S_, .i32⟩
  | 110 => ⟨S2x80x128x128, .i32⟩
  | 111 => ⟨S2x80x128x128, .i32⟩
  | 112 => ⟨S_, .i32⟩
  | 113 => ⟨S2x80x128x128, .i32⟩
  | 114 => ⟨S2x80x128x128, .i32⟩
  | 115 => ⟨S2x80x128x128, .i32⟩
  | 116 => ⟨S2x80x128x128, .i32⟩
  | 117 => ⟨S2x80x128x128, .i32⟩
  | 118 => ⟨S_, .i32⟩
  | 119 => ⟨S2x80x128x128, .i32⟩
  | 120 => ⟨S2x80x128x128, .i32⟩
  | 121 => ⟨S_, .i32⟩
  | 122 => ⟨S2x80x128x128, .i32⟩
  | 123 => ⟨S2x80x128x128, .i32⟩
  | 124 => ⟨S2x80x128x128, .i32⟩
  | 125 => ⟨S2x80x128x128, .i32⟩
  | 126 => ⟨S2x80x128x128, .i32⟩
  | 127 => ⟨S_, .i32⟩
  | _ => ⟨S2x6x256x16x44, .f32⟩

abbrev hbmTy0_2 (i : Nat) : BufTy := match i % 128 with
  | 0 => ⟨S2x80x128x128, .i32⟩
  | 1 => ⟨S2x80x128x128, .i32⟩
  | 2 => ⟨S_, .i32⟩
  | 3 => ⟨S2x80x128x128, .i32⟩
  | 4 => ⟨S2x80x128x128, .i32⟩
  | 5 => ⟨S2x80x128x128, .i32⟩
  | 6 => ⟨S2x80x128x128, .i32⟩
  | 7 => ⟨S2x80x128x128, .i32⟩
  | 8 => ⟨S2x80x128x128, .i32⟩
  | 9 => ⟨S2x80x128x128, .i32⟩
  | 10 => ⟨S2x80x128x128, .i32⟩
  | 11 => ⟨S_, .i32⟩
  | 12 => ⟨S2x80x128x128, .i32⟩
  | 13 => ⟨S2x80x128x128, .i32⟩
  | 14 => ⟨S2x80x128x128, .i32⟩
  | 15 => ⟨S_, .i32⟩
  | 16 => ⟨S2x80x128x128, .i32⟩
  | 17 => ⟨S2x80x128x128, .i32⟩
  | 18 => ⟨S_, .i32⟩
  | 19 => ⟨S2x80x128x128, .i32⟩
  | 20 => ⟨S2x80x128x128, .i32⟩
  | 21 => ⟨S2x80x128x128, .f32⟩
  | 22 => ⟨S_, .f32⟩
  | 23 => ⟨S2x80x128x128, .f32⟩
  | 24 => ⟨S2x80x128x128, .f32⟩
  | 25 => ⟨S1x1x1x1, .f32⟩
  | 26 => ⟨S2x80x128x128, .f32⟩
  | 27 => ⟨S2x80x128x128, .f32⟩
  | 28 => ⟨S2x80x128x128, .f32⟩
  | 29 => ⟨S2x80x128x128, .f32⟩
  | 30 => ⟨S2x80x128x128, .f32⟩
  | 31 => ⟨S2x80x128x128, .f32⟩
  | 32 => ⟨S2x80x128x128, .f32⟩
  | 33 => ⟨S2x80x128x128, .f32⟩
  | 34 => ⟨S2x80x128x128, .f32⟩
  | 35 => ⟨S2x80x128x128, .f32⟩
  | 36 => ⟨S_, .f32⟩
  | 37 => ⟨S2x80x128x128, .f32⟩
  | 38 => ⟨S2x80x128x128, .i1⟩
  | 39 => ⟨S_, .f32⟩
  | 40 => ⟨S2x80x128x128, .f32⟩
  | 41 => ⟨S2x80x128x128, .f32⟩
  | 42 => ⟨S2x80x128x128, .f32⟩
  | 43 => ⟨S_, .f32⟩
  | 44 => ⟨S2x80x128x128, .f32⟩
  | 45 => ⟨S2x80x128x128, .f32⟩
  | 46 => ⟨S2x80x128x128, .f32⟩
  | 47 => ⟨S_, .f32⟩
  | 48 => ⟨S_, .f32⟩
  | 49 => ⟨S2x80x128x128, .f32⟩
  | 50 => ⟨S2x80x128x128, .f32⟩
  | 51 => ⟨S2x80x128x128, .f32⟩
  | 52 => ⟨S_, .f32⟩
  | 53 => ⟨S_, .f32⟩
  | 54 => ⟨S2x80x128x128, .f32⟩
  | 55 => ⟨S2x80x128x128, .f32⟩
  | 56 => ⟨S2x80x128x128, .f32⟩
  | 57 => ⟨S2x80x128x128, .f32⟩
  | 58 => ⟨S2x80x128x128, .f32⟩
  | 59 => ⟨S_, .f32⟩
  | 60 => ⟨S_, .f32⟩
  | 61 => ⟨S2x80x128x128, .f32⟩
  | 62 => ⟨S2x80x128x128, .f32⟩
  | 63 => ⟨S2x80x128x128, .f32⟩
  | 64 => ⟨S2x80x128x128, .f32⟩
  | 65 => ⟨S2x80x128x128, .f32⟩
  | 66 => ⟨S_, .f32⟩
  | 67 => ⟨S_, .f32⟩
  | 68 => ⟨S2x80x128x128, .f32⟩
  | 69 => ⟨S2x80x128x128, .f32⟩
  | 70 => ⟨S2x80x128x128, .f32⟩
  | 71 => ⟨S2x80x128x128, .f32⟩
  | 72 => ⟨S2x80x128x128, .f32⟩
  | 73 => ⟨S_, .f32⟩
  | 74 => ⟨S_, .f32⟩
  | 75 => ⟨S2x80x128x128, .f32⟩
  | 76 => ⟨S2x80x128x128, .f32⟩
  | 77 => ⟨S2x80x128x128, .f32⟩
  | 78 => ⟨S2x80x128x128, .f32⟩
  | 79 => ⟨S2x80x128x128, .f32⟩
  | 80 => ⟨S_, .f32⟩
  | 81 => ⟨S_, .f32⟩
  | 82 => ⟨S2x80x128x128, .f32⟩
  | 83 => ⟨S2x80x128x128, .f32⟩
  | 84 => ⟨S2x80x128x128, .f32⟩
  | 85 => ⟨S2x80x128x128, .f32⟩
  | 86 => ⟨S2x80x128x128, .f32⟩
  | 87 => ⟨S_, .f32⟩
  | 88 => ⟨S_, .f32⟩
  | 89 => ⟨S2x80x128x128, .f32⟩
  | 90 => ⟨S2x80x128x128, .f32⟩
  | 91 => ⟨S2x80x128x128, .f32⟩
  | 92 => ⟨S2x80x128x128, .f32⟩
  | 93 => ⟨S2x80x128x128, .f32⟩
  | 94 => ⟨S_, .f32⟩
  | 95 => ⟨S_, .f32⟩
  | 96 => ⟨S2x80x128x128, .f32⟩
  | 97 => ⟨S2x80x128x128, .f32⟩
  | 98 => ⟨S2x80x128x128, .f32⟩
  | 99 => ⟨S2x80x128x128, .f32⟩
  | 100 => ⟨S2x80x128x128, .f32⟩
  | 101 => ⟨S_, .f32⟩
  | 102 => ⟨S_, .f32⟩
  | 103 => ⟨S2x80x128x128, .f32⟩
  | 104 => ⟨S2x80x128x128, .f32⟩
  | 105 => ⟨S2x80x128x128, .f32⟩
  | 106 => ⟨S2x80x128x128, .f32⟩
  | 107 => ⟨S2x80x128x128, .f32⟩
  | 108 => ⟨S2x80x128x128, .f32⟩
  | 109 => ⟨S_, .f32⟩
  | 110 => ⟨S2x80x128x128, .f32⟩
  | 111 => ⟨S2x80x128x128, .i1⟩
  | 112 => ⟨S_, .f32⟩
  | 113 => ⟨S2x80x128x128, .f32⟩
  | 114 => ⟨S2x80x128x128, .f32⟩
  | 115 => ⟨S2x80x128x128, .f32⟩
  | 116 => ⟨S2x80x128x128, .f32⟩
  | 117 => ⟨S_, .f32⟩
  | 118 => ⟨S2x80x128x128, .f32⟩
  | 119 => ⟨S2x80x128x128, .f32⟩
  | _ => ⟨S2x6x256x16x44, .f32⟩

abbrev hbmTy (i : Nat) : BufTy := match i / 128 with
  | 0 => hbmTy0_0 i
  | 1 => hbmTy0_1 i
  | 2 => hbmTy0_2 i
  | _ => ⟨S2x6x256x16x44, .f32⟩

abbrev bufTy : (tb : Table) → Fin (tcTables nBuf tb) → BufTy
  | .hbm, ⟨i, _⟩ => hbmTy i
  | _, _ => ⟨S2x6x256x16x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_c : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_call0_c_1 : Ref sig .tc := ⟨.hbm, 34, rfl⟩
abbrev main_call0_v14 : Ref sig .tc := ⟨.hbm, 35, rfl⟩
abbrev main_call0_v15 : Ref sig .tc := ⟨.hbm, 36, rfl⟩
abbrev main_call0_c_2 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_c_3 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_call0_v0 : Ref sig .tc := ⟨.hbm, 48, rfl⟩
abbrev main_call0_call0_c : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_c_0 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_c_1 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_call0_v12 : Ref sig .tc := ⟨.hbm, 63, rfl⟩
abbrev main_call0_call0_v13 : Ref sig .tc := ⟨.hbm, 64, rfl⟩
abbrev main_call0_call0_c_2 : Ref sig .tc := ⟨.hbm, 65, rfl⟩
abbrev main_call0_call0_v14 : Ref sig .tc := ⟨.hbm, 66, rfl⟩
abbrev main_call0_call0_v15 : Ref sig .tc := ⟨.hbm, 67, rfl⟩
abbrev main_call0_call0_c_3 : Ref sig .tc := ⟨.hbm, 68, rfl⟩
abbrev main_call0_call0_v16 : Ref sig .tc := ⟨.hbm, 69, rfl⟩
abbrev main_call0_call0_v17 : Ref sig .tc := ⟨.hbm, 70, rfl⟩
abbrev main_call0_call0_v18 : Ref sig .tc := ⟨.hbm, 71, rfl⟩
abbrev main_call0_call0_v19 : Ref sig .tc := ⟨.hbm, 72, rfl⟩
abbrev main_call0_call0_v20 : Ref sig .tc := ⟨.hbm, 73, rfl⟩
abbrev main_call0_call0_c_4 : Ref sig .tc := ⟨.hbm, 74, rfl⟩
abbrev main_call0_call0_v21 : Ref sig .tc := ⟨.hbm, 75, rfl⟩
abbrev main_call0_call0_v22 : Ref sig .tc := ⟨.hbm, 76, rfl⟩
abbrev main_call0_call0_c_5 : Ref sig .tc := ⟨.hbm, 77, rfl⟩
abbrev main_call0_call0_v23 : Ref sig .tc := ⟨.hbm, 78, rfl⟩
abbrev main_call0_call0_v24 : Ref sig .tc := ⟨.hbm, 79, rfl⟩
abbrev main_call0_call0_v25 : Ref sig .tc := ⟨.hbm, 80, rfl⟩
abbrev main_call0_call0_v26 : Ref sig .tc := ⟨.hbm, 81, rfl⟩
abbrev main_call0_call0_v27 : Ref sig .tc := ⟨.hbm, 82, rfl⟩
abbrev main_call0_call0_c_6 : Ref sig .tc := ⟨.hbm, 83, rfl⟩
abbrev main_call0_call0_v28 : Ref sig .tc := ⟨.hbm, 84, rfl⟩
abbrev main_call0_call0_v29 : Ref sig .tc := ⟨.hbm, 85, rfl⟩
abbrev main_call0_call0_c_7 : Ref sig .tc := ⟨.hbm, 86, rfl⟩
abbrev main_call0_call0_v30 : Ref sig .tc := ⟨.hbm, 87, rfl⟩
abbrev main_call0_call0_v31 : Ref sig .tc := ⟨.hbm, 88, rfl⟩
abbrev main_call0_call0_v32 : Ref sig .tc := ⟨.hbm, 89, rfl⟩
abbrev main_call0_call0_v33 : Ref sig .tc := ⟨.hbm, 90, rfl⟩
abbrev main_call0_call0_v34 : Ref sig .tc := ⟨.hbm, 91, rfl⟩
abbrev main_call0_call0_v35 : Ref sig .tc := ⟨.hbm, 92, rfl⟩
abbrev main_call0_call0_v36 : Ref sig .tc := ⟨.hbm, 93, rfl⟩
abbrev main_call0_call0_v37 : Ref sig .tc := ⟨.hbm, 94, rfl⟩
abbrev main_call0_call0_c_8 : Ref sig .tc := ⟨.hbm, 95, rfl⟩
abbrev main_call0_call0_v38 : Ref sig .tc := ⟨.hbm, 96, rfl⟩
abbrev main_call0_call0_v39 : Ref sig .tc := ⟨.hbm, 97, rfl⟩
abbrev main_call0_call0_v40 : Ref sig .tc := ⟨.hbm, 98, rfl⟩
abbrev main_call0_call0_c_9 : Ref sig .tc := ⟨.hbm, 99, rfl⟩
abbrev main_call0_call0_v41 : Ref sig .tc := ⟨.hbm, 100, rfl⟩
abbrev main_call0_call0_v42 : Ref sig .tc := ⟨.hbm, 101, rfl⟩
abbrev main_call0_call0_c_10 : Ref sig .tc := ⟨.hbm, 102, rfl⟩
abbrev main_call0_call0_v43 : Ref sig .tc := ⟨.hbm, 103, rfl⟩
abbrev main_call0_call0_v44 : Ref sig .tc := ⟨.hbm, 104, rfl⟩
abbrev main_call0_call0_v45 : Ref sig .tc := ⟨.hbm, 105, rfl⟩
abbrev main_call0_call0_v46 : Ref sig .tc := ⟨.hbm, 106, rfl⟩
abbrev main_call0_call0_v47 : Ref sig .tc := ⟨.hbm, 107, rfl⟩
abbrev main_call0_call0_c_11 : Ref sig .tc := ⟨.hbm, 108, rfl⟩
abbrev main_call0_call0_v48 : Ref sig .tc := ⟨.hbm, 109, rfl⟩
abbrev main_call0_call0_v49 : Ref sig .tc := ⟨.hbm, 110, rfl⟩
abbrev main_call0_call0_c_12 : Ref sig .tc := ⟨.hbm, 111, rfl⟩
abbrev main_call0_call0_v50 : Ref sig .tc := ⟨.hbm, 112, rfl⟩
abbrev main_call0_call0_v51 : Ref sig .tc := ⟨.hbm, 113, rfl⟩
abbrev main_call0_call0_v52 : Ref sig .tc := ⟨.hbm, 114, rfl⟩
abbrev main_call0_call0_v53 : Ref sig .tc := ⟨.hbm, 115, rfl⟩
abbrev main_call0_call0_v54 : Ref sig .tc := ⟨.hbm, 116, rfl⟩
abbrev main_call0_call0_c_13 : Ref sig .tc := ⟨.hbm, 117, rfl⟩
abbrev main_call0_call0_v55 : Ref sig .tc := ⟨.hbm, 118, rfl⟩
abbrev main_call0_call0_v56 : Ref sig .tc := ⟨.hbm, 119, rfl⟩
abbrev main_call0_call0_c_14 : Ref sig .tc := ⟨.hbm, 120, rfl⟩
abbrev main_call0_call0_v57 : Ref sig .tc := ⟨.hbm, 121, rfl⟩
abbrev main_call0_call0_v58 : Ref sig .tc := ⟨.hbm, 122, rfl⟩
abbrev main_call0_call0_v59 : Ref sig .tc := ⟨.hbm, 123, rfl⟩
abbrev main_call0_call0_v60 : Ref sig .tc := ⟨.hbm, 124, rfl⟩
abbrev main_call0_call0_v61 : Ref sig .tc := ⟨.hbm, 125, rfl⟩
abbrev main_call0_call0_c_15 : Ref sig .tc := ⟨.hbm, 126, rfl⟩
abbrev main_call0_call0_v62 : Ref sig .tc := ⟨.hbm, 127, rfl⟩
abbrev main_call0_call0_v63 : Ref sig .tc := ⟨.hbm, 128, rfl⟩
abbrev main_call0_call0_c_16 : Ref sig .tc := ⟨.hbm, 129, rfl⟩
abbrev main_call0_call0_v64 : Ref sig .tc := ⟨.hbm, 130, rfl⟩
abbrev main_call0_call0_v65 : Ref sig .tc := ⟨.hbm, 131, rfl⟩
abbrev main_call0_call0_v66 : Ref sig .tc := ⟨.hbm, 132, rfl⟩
abbrev main_call0_call0_v67 : Ref sig .tc := ⟨.hbm, 133, rfl⟩
abbrev main_call0_call0_v68 : Ref sig .tc := ⟨.hbm, 134, rfl⟩
abbrev main_call0_call0_v69 : Ref sig .tc := ⟨.hbm, 135, rfl⟩
abbrev main_call0_call0_v70 : Ref sig .tc := ⟨.hbm, 136, rfl⟩
abbrev main_call0_call0_v71 : Ref sig .tc := ⟨.hbm, 137, rfl⟩
abbrev main_call0_call0_c_17 : Ref sig .tc := ⟨.hbm, 138, rfl⟩
abbrev main_call0_call0_v72 : Ref sig .tc := ⟨.hbm, 139, rfl⟩
abbrev main_call0_call0_v73 : Ref sig .tc := ⟨.hbm, 140, rfl⟩
abbrev main_call0_call0_v74 : Ref sig .tc := ⟨.hbm, 141, rfl⟩
abbrev main_call0_call0_c_18 : Ref sig .tc := ⟨.hbm, 142, rfl⟩
abbrev main_call0_call0_v75 : Ref sig .tc := ⟨.hbm, 143, rfl⟩
abbrev main_call0_call0_v76 : Ref sig .tc := ⟨.hbm, 144, rfl⟩
abbrev main_call0_call0_c_19 : Ref sig .tc := ⟨.hbm, 145, rfl⟩
abbrev main_call0_call0_v77 : Ref sig .tc := ⟨.hbm, 146, rfl⟩
abbrev main_call0_call0_v78 : Ref sig .tc := ⟨.hbm, 147, rfl⟩
abbrev main_call0_call0_v79 : Ref sig .tc := ⟨.hbm, 148, rfl⟩
abbrev main_call0_call0_v80 : Ref sig .tc := ⟨.hbm, 149, rfl⟩
abbrev main_call0_call0_v81 : Ref sig .tc := ⟨.hbm, 150, rfl⟩
abbrev main_call0_call0_c_20 : Ref sig .tc := ⟨.hbm, 151, rfl⟩
abbrev main_call0_call0_v82 : Ref sig .tc := ⟨.hbm, 152, rfl⟩
abbrev main_call0_call0_v83 : Ref sig .tc := ⟨.hbm, 153, rfl⟩
abbrev main_call0_call0_c_21 : Ref sig .tc := ⟨.hbm, 154, rfl⟩
abbrev main_call0_call0_v84 : Ref sig .tc := ⟨.hbm, 155, rfl⟩
abbrev main_call0_call0_v85 : Ref sig .tc := ⟨.hbm, 156, rfl⟩
abbrev main_call0_call0_v86 : Ref sig .tc := ⟨.hbm, 157, rfl⟩
abbrev main_call0_call0_v87 : Ref sig .tc := ⟨.hbm, 158, rfl⟩
abbrev main_call0_call0_v88 : Ref sig .tc := ⟨.hbm, 159, rfl⟩
abbrev main_call0_call0_c_22 : Ref sig .tc := ⟨.hbm, 160, rfl⟩
abbrev main_call0_call0_v89 : Ref sig .tc := ⟨.hbm, 161, rfl⟩
abbrev main_call0_call0_v90 : Ref sig .tc := ⟨.hbm, 162, rfl⟩
abbrev main_call0_call0_c_23 : Ref sig .tc := ⟨.hbm, 163, rfl⟩
abbrev main_call0_call0_v91 : Ref sig .tc := ⟨.hbm, 164, rfl⟩
abbrev main_call0_call0_v92 : Ref sig .tc := ⟨.hbm, 165, rfl⟩
abbrev main_call0_call0_v93 : Ref sig .tc := ⟨.hbm, 166, rfl⟩
abbrev main_call0_call0_v94 : Ref sig .tc := ⟨.hbm, 167, rfl⟩
abbrev main_call0_call0_v95 : Ref sig .tc := ⟨.hbm, 168, rfl⟩
abbrev main_call0_call0_c_24 : Ref sig .tc := ⟨.hbm, 169, rfl⟩
abbrev main_call0_call0_v96 : Ref sig .tc := ⟨.hbm, 170, rfl⟩
abbrev main_call0_call0_v97 : Ref sig .tc := ⟨.hbm, 171, rfl⟩
abbrev main_call0_call0_c_25 : Ref sig .tc := ⟨.hbm, 172, rfl⟩
abbrev main_call0_call0_v98 : Ref sig .tc := ⟨.hbm, 173, rfl⟩
abbrev main_call0_call0_v99 : Ref sig .tc := ⟨.hbm, 174, rfl⟩
abbrev main_call0_call0_v100 : Ref sig .tc := ⟨.hbm, 175, rfl⟩
abbrev main_call0_call0_v101 : Ref sig .tc := ⟨.hbm, 176, rfl⟩
abbrev main_call0_call0_v102 : Ref sig .tc := ⟨.hbm, 177, rfl⟩
abbrev main_call0_call0_v103 : Ref sig .tc := ⟨.hbm, 178, rfl⟩
abbrev main_call0_call0_v104 : Ref sig .tc := ⟨.hbm, 179, rfl⟩
abbrev main_call0_call0_v105 : Ref sig .tc := ⟨.hbm, 180, rfl⟩
abbrev main_call0_call0_c_26 : Ref sig .tc := ⟨.hbm, 181, rfl⟩
abbrev main_call0_call0_v106 : Ref sig .tc := ⟨.hbm, 182, rfl⟩
abbrev main_call0_call0_v107 : Ref sig .tc := ⟨.hbm, 183, rfl⟩
abbrev main_call0_call0_v108 : Ref sig .tc := ⟨.hbm, 184, rfl⟩
abbrev main_call0_call0_c_27 : Ref sig .tc := ⟨.hbm, 185, rfl⟩
abbrev main_call0_call0_v109 : Ref sig .tc := ⟨.hbm, 186, rfl⟩
abbrev main_call0_call0_v110 : Ref sig .tc := ⟨.hbm, 187, rfl⟩
abbrev main_call0_call0_c_28 : Ref sig .tc := ⟨.hbm, 188, rfl⟩
abbrev main_call0_call0_v111 : Ref sig .tc := ⟨.hbm, 189, rfl⟩
abbrev main_call0_call0_v112 : Ref sig .tc := ⟨.hbm, 190, rfl⟩
abbrev main_call0_call0_v113 : Ref sig .tc := ⟨.hbm, 191, rfl⟩
abbrev main_call0_call0_v114 : Ref sig .tc := ⟨.hbm, 192, rfl⟩
abbrev main_call0_call0_v115 : Ref sig .tc := ⟨.hbm, 193, rfl⟩
abbrev main_call0_call0_c_29 : Ref sig .tc := ⟨.hbm, 194, rfl⟩
abbrev main_call0_call0_v116 : Ref sig .tc := ⟨.hbm, 195, rfl⟩
abbrev main_call0_call0_v117 : Ref sig .tc := ⟨.hbm, 196, rfl⟩
abbrev main_call0_call0_c_30 : Ref sig .tc := ⟨.hbm, 197, rfl⟩
abbrev main_call0_call0_v118 : Ref sig .tc := ⟨.hbm, 198, rfl⟩
abbrev main_call0_call0_v119 : Ref sig .tc := ⟨.hbm, 199, rfl⟩
abbrev main_call0_call0_v120 : Ref sig .tc := ⟨.hbm, 200, rfl⟩
abbrev main_call0_call0_v121 : Ref sig .tc := ⟨.hbm, 201, rfl⟩
abbrev main_call0_call0_v122 : Ref sig .tc := ⟨.hbm, 202, rfl⟩
abbrev main_call0_call0_c_31 : Ref sig .tc := ⟨.hbm, 203, rfl⟩
abbrev main_call0_call0_v123 : Ref sig .tc := ⟨.hbm, 204, rfl⟩
abbrev main_call0_call0_v124 : Ref sig .tc := ⟨.hbm, 205, rfl⟩
abbrev main_call0_call0_c_32 : Ref sig .tc := ⟨.hbm, 206, rfl⟩
abbrev main_call0_call0_v125 : Ref sig .tc := ⟨.hbm, 207, rfl⟩
abbrev main_call0_call0_v126 : Ref sig .tc := ⟨.hbm, 208, rfl⟩
abbrev main_call0_call0_v127 : Ref sig .tc := ⟨.hbm, 209, rfl⟩
abbrev main_call0_call0_v128 : Ref sig .tc := ⟨.hbm, 210, rfl⟩
abbrev main_call0_call0_v129 : Ref sig .tc := ⟨.hbm, 211, rfl⟩
abbrev main_call0_call0_c_33 : Ref sig .tc := ⟨.hbm, 212, rfl⟩
abbrev main_call0_call0_v130 : Ref sig .tc := ⟨.hbm, 213, rfl⟩
abbrev main_call0_call0_v131 : Ref sig .tc := ⟨.hbm, 214, rfl⟩
abbrev main_call0_call0_c_34 : Ref sig .tc := ⟨.hbm, 215, rfl⟩
abbrev main_call0_call0_v132 : Ref sig .tc := ⟨.hbm, 216, rfl⟩
abbrev main_call0_call0_v133 : Ref sig .tc := ⟨.hbm, 217, rfl⟩
abbrev main_call0_call0_v134 : Ref sig .tc := ⟨.hbm, 218, rfl⟩
abbrev main_call0_call0_v135 : Ref sig .tc := ⟨.hbm, 219, rfl⟩
abbrev main_call0_call0_v136 : Ref sig .tc := ⟨.hbm, 220, rfl⟩
abbrev main_call0_call0_v137 : Ref sig .tc := ⟨.hbm, 221, rfl⟩
abbrev main_call0_call0_v138 : Ref sig .tc := ⟨.hbm, 222, rfl⟩
abbrev main_call0_call0_v139 : Ref sig .tc := ⟨.hbm, 223, rfl⟩
abbrev main_call0_call0_c_35 : Ref sig .tc := ⟨.hbm, 224, rfl⟩
abbrev main_call0_call0_v140 : Ref sig .tc := ⟨.hbm, 225, rfl⟩
abbrev main_call0_call0_v141 : Ref sig .tc := ⟨.hbm, 226, rfl⟩
abbrev main_call0_call0_v142 : Ref sig .tc := ⟨.hbm, 227, rfl⟩
abbrev main_call0_call0_c_36 : Ref sig .tc := ⟨.hbm, 228, rfl⟩
abbrev main_call0_call0_v143 : Ref sig .tc := ⟨.hbm, 229, rfl⟩
abbrev main_call0_call0_v144 : Ref sig .tc := ⟨.hbm, 230, rfl⟩
abbrev main_call0_call0_c_37 : Ref sig .tc := ⟨.hbm, 231, rfl⟩
abbrev main_call0_call0_v145 : Ref sig .tc := ⟨.hbm, 232, rfl⟩
abbrev main_call0_call0_v146 : Ref sig .tc := ⟨.hbm, 233, rfl⟩
abbrev main_call0_call0_v147 : Ref sig .tc := ⟨.hbm, 234, rfl⟩
abbrev main_call0_call0_v148 : Ref sig .tc := ⟨.hbm, 235, rfl⟩
abbrev main_call0_call0_v149 : Ref sig .tc := ⟨.hbm, 236, rfl⟩
abbrev main_call0_call0_c_38 : Ref sig .tc := ⟨.hbm, 237, rfl⟩
abbrev main_call0_call0_v150 : Ref sig .tc := ⟨.hbm, 238, rfl⟩
abbrev main_call0_call0_v151 : Ref sig .tc := ⟨.hbm, 239, rfl⟩
abbrev main_call0_call0_c_39 : Ref sig .tc := ⟨.hbm, 240, rfl⟩
abbrev main_call0_call0_v152 : Ref sig .tc := ⟨.hbm, 241, rfl⟩
abbrev main_call0_call0_v153 : Ref sig .tc := ⟨.hbm, 242, rfl⟩
abbrev main_call0_call0_v154 : Ref sig .tc := ⟨.hbm, 243, rfl⟩
abbrev main_call0_call0_v155 : Ref sig .tc := ⟨.hbm, 244, rfl⟩
abbrev main_call0_call0_v156 : Ref sig .tc := ⟨.hbm, 245, rfl⟩
abbrev main_call0_call0_c_40 : Ref sig .tc := ⟨.hbm, 246, rfl⟩
abbrev main_call0_call0_v157 : Ref sig .tc := ⟨.hbm, 247, rfl⟩
abbrev main_call0_call0_v158 : Ref sig .tc := ⟨.hbm, 248, rfl⟩
abbrev main_call0_call0_c_41 : Ref sig .tc := ⟨.hbm, 249, rfl⟩
abbrev main_call0_call0_v159 : Ref sig .tc := ⟨.hbm, 250, rfl⟩
abbrev main_call0_call0_v160 : Ref sig .tc := ⟨.hbm, 251, rfl⟩
abbrev main_call0_call0_v161 : Ref sig .tc := ⟨.hbm, 252, rfl⟩
abbrev main_call0_call0_v162 : Ref sig .tc := ⟨.hbm, 253, rfl⟩
abbrev main_call0_call0_v163 : Ref sig .tc := ⟨.hbm, 254, rfl⟩
abbrev main_call0_call0_c_42 : Ref sig .tc := ⟨.hbm, 255, rfl⟩
abbrev main_call0_call0_v164 : Ref sig .tc := ⟨.hbm, 256, rfl⟩
abbrev main_call0_call0_v165 : Ref sig .tc := ⟨.hbm, 257, rfl⟩
abbrev main_call0_call0_c_43 : Ref sig .tc := ⟨.hbm, 258, rfl⟩
abbrev main_call0_call0_v166 : Ref sig .tc := ⟨.hbm, 259, rfl⟩
abbrev main_call0_call0_v167 : Ref sig .tc := ⟨.hbm, 260, rfl⟩
abbrev main_call0_call0_v168 : Ref sig .tc := ⟨.hbm, 261, rfl⟩
abbrev main_call0_call0_v169 : Ref sig .tc := ⟨.hbm, 262, rfl⟩
abbrev main_call0_call0_v170 : Ref sig .tc := ⟨.hbm, 263, rfl⟩
abbrev main_call0_v25_0 : Ref sig .tc := ⟨.hbm, 264, rfl⟩
abbrev main_call0_call0_v172 : Ref sig .tc := ⟨.hbm, 265, rfl⟩
abbrev main_call0_call0_v173 : Ref sig .tc := ⟨.hbm, 266, rfl⟩
abbrev main_call0_call0_c_44 : Ref sig .tc := ⟨.hbm, 267, rfl⟩
abbrev main_call0_call0_v174 : Ref sig .tc := ⟨.hbm, 268, rfl⟩
abbrev main_call0_v25_1 : Ref sig .tc := ⟨.hbm, 269, rfl⟩
abbrev main_call0_v26 : Ref sig .tc := ⟨.hbm, 270, rfl⟩
abbrev main_call0_c_4 : Ref sig .tc := ⟨.hbm, 271, rfl⟩
abbrev main_call0_v27 : Ref sig .tc := ⟨.hbm, 272, rfl⟩
abbrev main_call0_v28 : Ref sig .tc := ⟨.hbm, 273, rfl⟩
abbrev main_call0_c_5 : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_cst : Ref sig .tc := ⟨.hbm, 278, rfl⟩
abbrev main_call0_v32 : Ref sig .tc := ⟨.hbm, 279, rfl⟩
abbrev main_call0_v33 : Ref sig .tc := ⟨.hbm, 280, rfl⟩
abbrev main_call0_v34 : Ref sig .tc := ⟨.hbm, 281, rfl⟩
abbrev main_call0_v35 : Ref sig .tc := ⟨.hbm, 282, rfl⟩
abbrev main_call0_v36 : Ref sig .tc := ⟨.hbm, 283, rfl⟩
abbrev main_call0_v37 : Ref sig .tc := ⟨.hbm, 284, rfl⟩
abbrev main_call0_v38 : Ref sig .tc := ⟨.hbm, 285, rfl⟩
abbrev main_call0_v39 : Ref sig .tc := ⟨.hbm, 286, rfl⟩
abbrev main_v7 : Ref sig .tc := ⟨.hbm, 287, rfl⟩
abbrev main_v8 : Ref sig .tc := ⟨.hbm, 288, rfl⟩
abbrev main_v9 : Ref sig .tc := ⟨.hbm, 289, rfl⟩
abbrev main_v10 : Ref sig .tc := ⟨.hbm, 290, rfl⟩
abbrev main_v11 : Ref sig .tc := ⟨.hbm, 291, rfl⟩
abbrev main_cst_3 : Ref sig .tc := ⟨.hbm, 292, rfl⟩
abbrev main_v12 : Ref sig .tc := ⟨.hbm, 293, rfl⟩
abbrev main_v13 : Ref sig .tc := ⟨.hbm, 294, rfl⟩
abbrev main_cst_4 : Ref sig .tc := ⟨.hbm, 295, rfl⟩
abbrev main_v14 : Ref sig .tc := ⟨.hbm, 296, rfl⟩
abbrev main_v15 : Ref sig .tc := ⟨.hbm, 297, rfl⟩
abbrev main_v16 : Ref sig .tc := ⟨.hbm, 298, rfl⟩
abbrev main_cst_5 : Ref sig .tc := ⟨.hbm, 299, rfl⟩
abbrev main_v17 : Ref sig .tc := ⟨.hbm, 300, rfl⟩
abbrev main_v18 : Ref sig .tc := ⟨.hbm, 301, rfl⟩
abbrev main_v19 : Ref sig .tc := ⟨.hbm, 302, rfl⟩
abbrev main_cst_6 : Ref sig .tc := ⟨.hbm, 303, rfl⟩
abbrev main_cst_7 : Ref sig .tc := ⟨.hbm, 304, rfl⟩
abbrev main_call2_v0 : Ref sig .tc := ⟨.hbm, 305, rfl⟩
abbrev main_call2_v1 : Ref sig .tc := ⟨.hbm, 306, rfl⟩
abbrev main_v20 : Ref sig .tc := ⟨.hbm, 307, rfl⟩
abbrev main_cst_8 : Ref sig .tc := ⟨.hbm, 308, rfl⟩
abbrev main_cst_9 : Ref sig .tc := ⟨.hbm, 309, rfl⟩
abbrev main_call3_v0 : Ref sig .tc := ⟨.hbm, 310, rfl⟩
abbrev main_call3_v1 : Ref sig .tc := ⟨.hbm, 311, rfl⟩
abbrev main_v21 : Ref sig .tc := ⟨.hbm, 312, rfl⟩
abbrev main_v22 : Ref sig .tc := ⟨.hbm, 313, rfl⟩
abbrev main_v23 : Ref sig .tc := ⟨.hbm, 314, rfl⟩
abbrev main_cst_10 : Ref sig .tc := ⟨.hbm, 315, rfl⟩
abbrev main_cst_11 : Ref sig .tc := ⟨.hbm, 316, rfl⟩
abbrev main_call4_v0 : Ref sig .tc := ⟨.hbm, 317, rfl⟩
abbrev main_call4_v1 : Ref sig .tc := ⟨.hbm, 318, rfl⟩
abbrev main_v24 : Ref sig .tc := ⟨.hbm, 319, rfl⟩
abbrev main_v25 : Ref sig .tc := ⟨.hbm, 320, rfl⟩
abbrev main_v26 : Ref sig .tc := ⟨.hbm, 321, rfl⟩
abbrev main_cst_12 : Ref sig .tc := ⟨.hbm, 322, rfl⟩
abbrev main_cst_13 : Ref sig .tc := ⟨.hbm, 323, rfl⟩
abbrev main_call5_v0 : Ref sig .tc := ⟨.hbm, 324, rfl⟩
abbrev main_call5_v1 : Ref sig .tc := ⟨.hbm, 325, rfl⟩
abbrev main_v27 : Ref sig .tc := ⟨.hbm, 326, rfl⟩
abbrev main_v28 : Ref sig .tc := ⟨.hbm, 327, rfl⟩
abbrev main_v29 : Ref sig .tc := ⟨.hbm, 328, rfl⟩
abbrev main_cst_14 : Ref sig .tc := ⟨.hbm, 329, rfl⟩
abbrev main_cst_15 : Ref sig .tc := ⟨.hbm, 330, rfl⟩
abbrev main_call6_v0 : Ref sig .tc := ⟨.hbm, 331, rfl⟩
abbrev main_call6_v1 : Ref sig .tc := ⟨.hbm, 332, rfl⟩
abbrev main_v30 : Ref sig .tc := ⟨.hbm, 333, rfl⟩
abbrev main_v31 : Ref sig .tc := ⟨.hbm, 334, rfl⟩
abbrev main_v32 : Ref sig .tc := ⟨.hbm, 335, rfl⟩
abbrev main_cst_16 : Ref sig .tc := ⟨.hbm, 336, rfl⟩
abbrev main_cst_17 : Ref sig .tc := ⟨.hbm, 337, rfl⟩
abbrev main_call7_v0 : Ref sig .tc := ⟨.hbm, 338, rfl⟩
abbrev main_call7_v1 : Ref sig .tc := ⟨.hbm, 339, rfl⟩
abbrev main_v33 : Ref sig .tc := ⟨.hbm, 340, rfl⟩
abbrev main_v34 : Ref sig .tc := ⟨.hbm, 341, rfl⟩
abbrev main_v35 : Ref sig .tc := ⟨.hbm, 342, rfl⟩
abbrev main_cst_18 : Ref sig .tc := ⟨.hbm, 343, rfl⟩
abbrev main_cst_19 : Ref sig .tc := ⟨.hbm, 344, rfl⟩
abbrev main_call8_v0 : Ref sig .tc := ⟨.hbm, 345, rfl⟩
abbrev main_call8_v1 : Ref sig .tc := ⟨.hbm, 346, rfl⟩
abbrev main_v36 : Ref sig .tc := ⟨.hbm, 347, rfl⟩
abbrev main_v37 : Ref sig .tc := ⟨.hbm, 348, rfl⟩
abbrev main_v38 : Ref sig .tc := ⟨.hbm, 349, rfl⟩
abbrev main_cst_20 : Ref sig .tc := ⟨.hbm, 350, rfl⟩
abbrev main_cst_21 : Ref sig .tc := ⟨.hbm, 351, rfl⟩
abbrev main_call9_v0 : Ref sig .tc := ⟨.hbm, 352, rfl⟩
abbrev main_call9_v1 : Ref sig .tc := ⟨.hbm, 353, rfl⟩
abbrev main_v39 : Ref sig .tc := ⟨.hbm, 354, rfl⟩
abbrev main_v40 : Ref sig .tc := ⟨.hbm, 355, rfl⟩
abbrev main_v41 : Ref sig .tc := ⟨.hbm, 356, rfl⟩
abbrev main_cst_22 : Ref sig .tc := ⟨.hbm, 357, rfl⟩
abbrev main_cst_23 : Ref sig .tc := ⟨.hbm, 358, rfl⟩
abbrev main_call10_v0 : Ref sig .tc := ⟨.hbm, 359, rfl⟩
abbrev main_call10_v1 : Ref sig .tc := ⟨.hbm, 360, rfl⟩
abbrev main_v42 : Ref sig .tc := ⟨.hbm, 361, rfl⟩
abbrev main_v43 : Ref sig .tc := ⟨.hbm, 362, rfl⟩
abbrev main_v44 : Ref sig .tc := ⟨.hbm, 363, rfl⟩
abbrev main_v45 : Ref sig .tc := ⟨.hbm, 364, rfl⟩
abbrev main_cst_24 : Ref sig .tc := ⟨.hbm, 365, rfl⟩
abbrev main_v46 : Ref sig .tc := ⟨.hbm, 366, rfl⟩
abbrev main_v47 : Ref sig .tc := ⟨.hbm, 367, rfl⟩
abbrev main_cst_25 : Ref sig .tc := ⟨.hbm, 368, rfl⟩
abbrev main_v48 : Ref sig .tc := ⟨.hbm, 369, rfl⟩
abbrev main_v49 : Ref sig .tc := ⟨.hbm, 370, rfl⟩
abbrev main_v50 : Ref sig .tc := ⟨.hbm, 371, rfl⟩
abbrev main_v51 : Ref sig .tc := ⟨.hbm, 372, rfl⟩
abbrev main_cst_26 : Ref sig .tc := ⟨.hbm, 373, rfl⟩
abbrev main_v52 : Ref sig .tc := ⟨.hbm, 374, rfl⟩
abbrev main_v53 : Ref sig .tc := ⟨.hbm, 375, rfl⟩

abbrev nD : Nat := 1
abbrev τ : Topo := Topo.v7x

variable {F : FTy → Type} [FloatOps F]
-- ==== Proof.Body.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Tactic
public import Idealize.ShloMosaic.Lib.WordCmp

/-!
# The kernel's body

The kernel as it is printed, over any floats.  Its body at a grid point, run on any buffer, leaves there a block that
depends on the point alone (`sound`, `out`).  Which block that is, is stated of the ideal kernel.
-/

@[expose] public section

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one rectangle stored through: the whole buffer. -/
abbrev whole : Rect S1x16x128x128 :=
  Rect.unit (s := S1x16x128x128) ![0, 0, 0, 0] S1x16x128x128.size inb_S1x16x128x128_S1x16x128x128_0_0_0_0

/-- The one store covers the buffer. -/
theorem covered (x : Vec F S1x16x128x128 .f32) (y : S1x16x128x128.Idx) :
    ∃ pc ∈ ([⟨whole, x⟩] : List (View.Piece (Elt F) S1x16x128x128 .f32)), y ∈ pc.1.set :=
  View.cover_of_tiled [⟨whole, x⟩] S1x16x128x128.size (by rfl) y

set_option maxHeartbeats 2200000 in
/-- Some block is what the body at `i` leaves in the buffer, on any core and whatever the buffer held. -/
theorem sound (i : grid0.Coords) : ∃ x : Vec F S1x16x128x128 .f32, ∀ (c : Dev nD) (E : Set ℕ)
    (b : Memref sig .tc .vmem S1x16x128x128 .f32) (hb : b.IsWhole) (K : PUnit → sProp 𝕄),
    iprop((∃ d, owns (c : Thread nD τ) b fullShare d) ∗ (iprop(owns (c : Thread nD τ) b fullShare x) -∗ K ⟨⟩))
      ⊢ wp frame (wpE (defs₀ (F := F)) Variants.none c none) E (cc0__rng_kernel i b hb) K := by
  apply Exists.intro
  intro c E b hb K
  rw [cc0__rng_kernel_eq_skeleton]
  unfold cc0__rng_kernel_skel
  simp only [k0_part1_eq_skeleton, k0_part2_eq_skeleton, k0_part3_eq_skeleton, k0_part4_eq_skeleton, k0_part5_eq_skeleton,
    k0_part6_eq_skeleton]
  unfold owns
  iintro ⟨⟨%d, %f, -, Hb⟩, Hk⟩
  sl_exec
  sl_step
  iapply Hk
  iexists _
  isplitr
  swap
  · iexact Hb
  ipureintro
  exact View.read_writes_eq_canon _ _ _ (covered _)

/-- That block. -/
def out (i : grid0.Coords) : Vec F S1x16x128x128 .f32 := (sound i).choose

end Cert.Kernel.Block
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Tactic
public import Idealize.ShloMosaic.Lib.WordCmp

/-!
# The ideal kernel's body

What the body leaves in its one output buffer at grid point `i` (`out`), named in the steps in which the kernel makes
it: the counters' base (`base`), the words after the first group of rounds (`early`, `early'`), after the third
(`middle`, `middle'`), the floats in `[0, 1)` (`units`), the stored block (`stored`).  And the triple: the body, run on
any buffer, leaves `out i` there (`sound`).
-/

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The quotient rounded down, as the kernel makes it from the truncated one. -/
def quot (a b : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The remainder by `d` with the divisor's sign, as the kernel makes it from the truncated one. -/
def remBy (a d : BitVec 32) : BitVec 32 :=
  Scalar.select
    (Scalar.andi (Scalar.xori (Scalar.cmpi .slt (Scalar.remsi a d) 0#32) (Scalar.cmpi .slt d 0#32))
      (Scalar.cmpi .ne (Scalar.remsi a d) 0#32))
    (Scalar.addi (Scalar.remsi a d) d) (Scalar.remsi a d)

/-- The remainder, a divisor zero taken as one. -/
def remainder (a b : BitVec 32) : BitVec 32 := remBy a (Scalar.select (Scalar.cmpi .eq b 0#32) 1#32 b)

/-- What block `i` adds to its own counters. -/
def base (i : grid0.Coords) : BitVec 32 :=
  Scalar.addi (Scalar.muli (Scalar.muli (Scalar.addi (Scalar.muli (quot (BitVec.ofNat 32 (i 0).val) 5#32) 80#32)
    (Scalar.muli (remainder (BitVec.ofNat 32 (i 0).val) 5#32) 16#32)) 128#32) 128#32) 2#32

/-- The last coordinate of each element of a block. -/
abbrev lane : IVec S16x128x128 32 := iota .tc S16x128x128 32 [2] iota_S16x128x128_d2_w32

/-- The second word after the first round of the second group. -/
def early (i : grid0.Coords) : IVec S16x128x128 32 := k0_pay12 (base i) lane k0_pay2 128#32

/-- The sum of the two words there. -/
def early' (i : grid0.Coords) : IVec S16x128x128 32 := k0_pay13 (base i) lane k0_pay2 128#32

/-- The first word after the third round of the third group. -/
def middle (i : grid0.Coords) : IVec S16x128x128 32 := k0_pay23 (early i) (early' i) 29#32

/-- What that word is taken against for the second one. -/
def middle' (i : grid0.Coords) : IVec S16x128x128 32 := k0_pay24 (early i) (early' i) 29#32

/-- The floats in `[0, 1)`. -/
def units (i : grid0.Coords) : FVec F S16x128x128 .f32 :=
  k0_pay38 (k0_pay35 (middle i) (middle' i)) (k0_pay36 (middle i) (middle' i)) k0_pay37

/-- The block stored. -/
def stored (i : grid0.Coords) : FVec F S1x16x128x128 .f32 :=
  k0_pay1 (k0_pay39 (units i)) (k0_pay40 (units i)) (k0_pay41 (units i)) (k0_pay42 (units i)) k0_pay43

/-- The one rectangle stored through: the whole buffer. -/
abbrev whole : Rect S1x16x128x128 :=
  Rect.unit (s := S1x16x128x128) ![0, 0, 0, 0] S1x16x128x128.size inb_S1x16x128x128_S1x16x128x128_0_0_0_0

/-- What the body leaves in the buffer. -/
def out (i : grid0.Coords) : Vec F S1x16x128x128 .f32 := View.canon [⟨whole, stored i⟩]

/-- The one store covers the buffer. -/
theorem covered (x : Vec F S1x16x128x128 .f32) (y : S1x16x128x128.Idx) :
    ∃ pc ∈ ([⟨whole, x⟩] : List (View.Piece (Elt F) S1x16x128x128 .f32)), y ∈ pc.1.set :=
  View.cover_of_tiled [⟨whole, x⟩] S1x16x128x128.size (by rfl) y

set_option maxHeartbeats 2200000 in
/-- The body at `i`, on a buffer of any contents, leaves `out i` there. -/
theorem sound (c : Dev nD) (E : Set ℕ) (i : grid0.Coords) (b : Memref sig .tc .vmem S1x16x128x128 .f32) (hb : b.IsWhole)
    (K : PUnit → sProp 𝕄) :
    iprop((∃ d, owns (c : Thread nD τ) b fullShare d) ∗ (iprop(owns (c : Thread nD τ) b fullShare (out i)) -∗ K ⟨⟩))
      ⊢ wp frame (wpE (defs₀ (F := F)) Variants.none c none) E (cc0__rng_kernel i b hb) K := by
  rw [cc0__rng_kernel_eq_skeleton]
  unfold cc0__rng_kernel_skel
  simp only [k0_part1_eq_skeleton, k0_part2_eq_skeleton, k0_part3_eq_skeleton, k0_part4_eq_skeleton, k0_part5_eq_skeleton,
    k0_part6_eq_skeleton]
  unfold owns
  iintro ⟨⟨%d, %f, -, Hb⟩, Hk⟩
  sl_exec
  sl_step
  iapply Hk
  iexists _
  isplitr
  swap
  · iexact Hb
  ipureintro
  exact (View.read_writes_eq_canon _ _ _ (covered _)).trans rfl

end Cert.KernelIdeal.Block
-- ==== Proof.IdealRun.lean ====
module

public import proofs.«01_k».proof.Proof.IdealBody
public import Idealize.ShloMosaic.Lib.Pipeline.Value

/-!
# The ideal kernel's run

The launch of the one pipeline, which has an output window and no input: its proof data (`data`: block `t` leaves
`Block.out` at `t`), the body's obligation, and the run (`run`) — at the end the result array is what the library makes
of the proof data, the arguments are as launched, and every semaphore counter is zero.
-/

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers at the call: as launched, the call being all that the program does. -/
abbrev atCall (c : Dev nD) (b : Ref sig .tc) : Buf (Elt F) ((c : Thread nD τ).loc b) := m ((c : Thread nD τ).loc b)

set_option maxHeartbeats 800000 in
/-- The program is its one call. -/
theorem only_call (𝒱 : Variants) :
    Pipeline.HMain (Ix := Unit) (Name := ℕ) (U := UR sig nD τ) (Lvl := ℕ) cfgs 0 defs₀ 𝒱 m (main (F := F)) (atCall m) :=
  Pipeline.hmain_region cfgs 0 defs₀ 𝒱 m main fun c => (main_chain c).trans rfl

/-- The pipeline's proof data: the array as found, and after point `t` the buffer at the body's block. -/
def data (_ : Fin 1) (c : Dev nD) : Dat τ (Elt F) Unit ℕ (UR sig nD τ) ℕ cfg0 c where
  A w := atCall m c (Pipeline.arrRef spec0 w)
  after w t := match w with
    | ⟨0, _⟩ => Block.out (grid0.coords t)
  Φ _ := Pipeline.ΦA spec0 c
  q _ := fullShare
  owed _ := 0

theorem data_array (c : Dev nD) (w : Fin cfg0.W) : (data m 0 c).A w = atCall m c (Pipeline.arrRef spec0 w) := by
  dsimp only [data]

theorem data_after (c : Dev nD) (t : Fin cfg0.N) : (data m 0 c).after 0 t = Block.out (grid0.coords t) := by
  dsimp only [data]

/-- The body at a point, between what the pipeline hands it and what it takes back. -/
theorem body (c : Dev nD) (t : Fin cfg0.N) :
    iprop((data m 0 c).Φ t.castSucc ∗ (data m 0 c).owesAt () t.castSucc
        ∗ (∃ d, owns (c : Thread nD τ) (st0_0 t) fullShare ((data m 0 c).before 0 t d)))
      ⊢ wp frame (wpE (defs₀ (F := F)) Variants.none c none) Set.univ (bodyAt0 t) fun _ =>
        iprop((data m 0 c).Φ t.succ ∗ (data m 0 c).owesAt () t.succ
          ∗ owns (c : Thread nD τ) (st0_0 t) fullShare ((data m 0 c).after 0 t)) := by
  unfold bodyAt0
  rw [show (data m 0 c).Φ t.succ = (data m 0 c).Φ t.castSucc from rfl,
    show (data m 0 c).owesAt () t.succ = (data m 0 c).owesAt () t.castSucc from rfl, data_after]
  iintro ⟨HΦ, Ho, ⟨%d, Hb⟩⟩
  iapply (Block.sound c Set.univ (grid0.coords t) _ _ _)
  isplitl [Hb]
  · iexists _
    iexact Hb
  iintro Hb
  isplitl [HΦ]
  · iexact HΦ
  isplitl [Ho]
  · iexact Ho
  iexact Hb

/-- The body's obligation, at every point. -/
theorem obligation (c : Dev nD) : BodyObligation (data (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (body m c t) rfl .rfl fun _ => .rfl

set_option backward.isDefEq.respectTransparency.types false in
set_option maxHeartbeats 800000 in
/-- The launch: every array of the pipeline ends at what the library makes of the proof data, every other buffer as
    found, every counter at zero. -/
theorem launch : θ_run defs (onTc (τ := τ) (main (F := F))) (s₀ m ρ) fun r =>
    Pipeline.FramePost cfgs (data m) 0 (atCall m) r ∧ r.2.sem = fun _ => 0 :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := atCall m) (hmain := only_call m Variants.none) (hA := data_array m) (hΦ := fun _ _ => rfl)

/-- The run. -/
theorem run : θ_run defs (onTc (τ := τ) (main (F := F))) ⟨m, fun _ => 0, ρ⟩ fun r => (∀ c : Dev nD,
      r.2.mem ((c.tc : Thread nD τ).loc main_v0) = (data m 0 c).arrAt 0 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun _ h => ⟨fun c => ⟨(h.1 c).1 0,
    (h.1 c).2 main_arg0 (Pipeline.mem_restRefs_of main_arg0 (by decide) (by decide)),
    (h.1 c).2 main_arg1 (Pipeline.mem_restRefs_of main_arg1 (by decide) (by decide)),
    (h.1 c).2 main_arg2 (Pipeline.mem_restRefs_of main_arg2 (by decide) (by decide)),
    (h.1 c).2 main_arg3 (Pipeline.mem_restRefs_of main_arg3 (by decide) (by decide)),
    (h.1 c).2 main_arg4 (Pipeline.mem_restRefs_of main_arg4 (by decide) (by decide)),
    (h.1 c).2 main_arg5 (Pipeline.mem_restRefs_of main_arg5 (by decide) (by decide))⟩, h.2⟩) (launch m ρ)

end Cert.KernelIdeal.Launch
-- ==== Proof.Threefry.lean ====
module

public import Mathlib.Data.BitVec

/-!
# Threefry-2x32

The random words, as a function of the key and the counter: a block of two 32-bit words goes through five groups of
four rounds (`mix`), each group closed by a key addition (`key`).  The result of the problem has the key `(0, 2)`;
the element at row-major place `n` takes the counter `(0, n)`, and its word is the exclusive or of the two words that
come out (`word`).
-/

@[expose] public section

namespace Cert.Rng

/-- A word rotated left by `r`, `s` being `32 - r`. -/
def rot (r s b : BitVec 32) : BitVec 32 := b <<< r ||| b >>> s

/-- One round: the sum, and the sum against the second word rotated. -/
def mix (r s : BitVec 32) (p : BitVec 32 × BitVec 32) : BitVec 32 × BitVec 32 := (p.1 + p.2, (p.1 + p.2) ^^^ rot r s p.2)

/-- One key addition, the `n`-th. -/
def key (n k l : BitVec 32) (p : BitVec 32 × BitVec 32) : BitVec 32 × BitVec 32 := (p.1 + k, p.2 + l + n)

/-- The four rounds of an odd group. -/
def roundsA (p : BitVec 32 × BitVec 32) : BitVec 32 × BitVec 32 := mix 6#32 26#32 (mix 26#32 6#32 (mix 15#32 17#32 (mix 13#32 19#32 p)))

/-- The four rounds of an even group. -/
def roundsB (p : BitVec 32 × BitVec 32) : BitVec 32 × BitVec 32 := mix 24#32 8#32 (mix 16#32 16#32 (mix 29#32 3#32 (mix 17#32 15#32 p)))

/-- The third key word. -/
def parity (k₀ k₁ : BitVec 32) : BitVec 32 := k₀ ^^^ k₁ ^^^ 466688986#32

/-- The whole block function. -/
def threefry (k₀ k₁ : BitVec 32) (p : BitVec 32 × BitVec 32) : BitVec 32 × BitVec 32 :=
  key 5#32 (parity k₀ k₁) k₀ (roundsA (key 4#32 k₁ (parity k₀ k₁) (roundsB (key 3#32 k₀ k₁ (roundsA
    (key 2#32 (parity k₀ k₁) k₀ (roundsB (key 1#32 k₁ (parity k₀ k₁) (roundsA (p.1 + k₀, p.2 + k₁))))))))))

/-- The word of the element whose counter's low half is `n`. -/
def word (n : BitVec 32) : BitVec 32 := (threefry 0#32 2#32 (0#32, n)).1 ^^^ (threefry 0#32 2#32 (0#32, n)).2

/-- The row-major place of an element of the result. -/
def place (a b c d : ℕ) : ℕ := 1310720 * a + 16384 * b + 128 * c + d

end Cert.Rng
-- ==== Proof.Normal.lean ====
module

public import proofs.«01_k».proof.Proof.Threefry
public import Idealize.ShloMosaic.PureOps.Ideal

/-!
# The normal deviate of a word

From a word to the problem's result, over the extended reals: the word's top 23 bits are the fraction of a float in
`[1, 2)`, which less one is in `[0, 1)` (`unit`); stretched to the interval from `lo = -(1 - 2⁻²⁴)` to one it is the
uniform deviate `uniform`; the inverse error function by its two polynomials (`erfInv`), times the root of two, is
the result (`normal`).  The uniform deviate lies strictly between minus one and one (`uniform_inside`), so the
infinite ends of the inverse error function are never taken.
-/

@[expose] public section

noncomputable section

namespace Cert.Rng

open Idealize.ShloMosaic

/-- The extended real a float's 32 bits denote. -/
abbrev bit (b : BitVec 32) : EReal := Ideal.ofBits .f32 b

/-- The float in `[0, 1)` made of a word's top 23 bits. -/
def unit (w : BitVec 32) : EReal := bit (w >>> 9#32 ||| 1065353216#32) - bit 0x3F800000#32

/-- The uniform deviate. -/
def uniform (w : BitVec 32) : EReal :=
  max (bit 0xBF7FFFFF#32) (unit w * (bit 0x3F800000#32 - bit 0xBF7FFFFF#32) + bit 0xBF7FFFFF#32)

/-- Horner's scheme, from the leading coefficient `c` down the list. -/
def horner (x : EReal) (c : BitVec 32) (cs : List (BitVec 32)) : EReal := cs.foldl (fun p k => bit k + p * x) (bit c)

/-- The polynomial for small `w`, in `w - 2.5`. -/
def near (x : EReal) : EReal :=
  horner x 0x32F16588#32 [0x34B84B36#32, 0xB66C7357#32, 0xB6935AC1#32, 0x396532DB#32, 0xBAA45408#32, 0xBB88E4EF#32,
    0x3E7C8F63#32, 0x3FC02E2F#32]

/-- The polynomial for large `w`, in `√w - 3`. -/
def far (x : EReal) : EReal :=
  horner x 0xB951F09B#32 [0x38D3B56B#32, 0x3AB0DC72#32, 0xBB70BDE7#32, 0x3BBC127B#32, 0xBBF9C5D7#32, 0x3C1AA57E#32,
    0x3F8036DB#32, 0x40354F7E#32]

/-- `w = -log (1 - u²)`. -/
def logTerm (u : EReal) : EReal := -Ideal.log1p (u * -u)

/-- The inverse error function by its two polynomials. -/
def erfInv (u : EReal) : EReal :=
  (if logTerm u < bit 0x40A00000#32 then near (logTerm u - bit 0x40200000#32)
    else far (Ideal.sqrt (logTerm u) - bit 0x40400000#32)) * u

/-- The normal deviate of the element at row-major place `n`. -/
def normal (n : BitVec 32) : EReal := bit 0x3FB504F3#32 * erfInv (uniform (word n))

/-! ### The constants -/

/-- A comparison's bit is set where the comparison holds. -/
theorem bit_set {p : Prop} [Decidable p] : BitVec.ofBool (decide p) = 1#1 ↔ p := by
  by_cases h : p <;> simp [h]

theorem bit_zero : bit 0x00000000#32 = 0 := by
  simp [Ideal.ofBits, Ideal.ieee]

/-- A normal float's value from its three fields. -/
theorem bit_normal {v : BitVec 32} {s : Bool} {e f : ℕ} (hs : (v.extractLsb' 31 1 == 1#1) = s)
    (he : (v.extractLsb' 23 8).toNat = e) (hf : (v.extractLsb' 0 23).toNat = f) (h0 : e ≠ 0) (h1 : e ≠ 255) :
    bit v = (((if s then -1 else 1) * ((2 ^ 23 + f : ℕ) : ℝ) * 2 ^ ((e : ℤ) - 127 - 23) : ℝ) : EReal) := by
  subst hs he hf
  show Ideal.ieee 8 23 v = _
  rw [Ideal.ieee, if_neg (by simpa using h1), if_neg (by simpa using h0)]
  norm_num

theorem bit_one : bit 0x3F800000#32 = ((1 : ℝ) : EReal) := by
  rw [bit_normal (s := false) (e := 127) (f := 0) (by decide) (by decide) (by decide) (by decide) (by decide)]
  norm_num

theorem bit_lo : bit 0xBF7FFFFF#32 = ((-(16777215 / 16777216) : ℝ) : EReal) := by
  rw [bit_normal (s := true) (e := 126) (f := 8388607) (by decide) (by decide) (by decide) (by decide) (by decide)]
  congr 1
  norm_num

/-- The interval's length. -/
theorem span_eq : bit 0x3F800000#32 - bit 0xBF7FFFFF#32 = ((33554431 / 16777216 : ℝ) : EReal) := by
  rw [bit_one, bit_lo, ← EReal.coe_sub]; norm_num

/-! ### The uniform deviate lies inside the interval -/

theorem top_lt (w : BitVec 32) : (w >>> 9#32).toNat < 2 ^ 23 := by
  have := w.isLt
  simp [BitVec.toNat_ushiftRight, Nat.shiftRight_eq_div_pow]
  omega

theorem or_one (w : BitVec 32) : (w >>> 9#32 ||| 1065353216#32).toNat = 2 ^ 23 * 127 + (w >>> 9#32).toNat := by
  rw [BitVec.toNat_or, Nat.or_comm]
  exact (Nat.two_pow_add_eq_or_of_lt (top_lt w) 127).symm

/-- The float of a word's top bits is their fraction of `2²³`. -/
theorem unit_eq (w : BitVec 32) : unit w = (((w >>> 9#32).toNat / 2 ^ 23 : ℝ) : EReal) := by
  have ht := top_lt w
  have h := or_one w
  rw [unit, bit_one]
  generalize w >>> 9#32 ||| 1065353216#32 = v at h
  generalize (w >>> 9#32).toNat = k at h ht
  have hs : (v.extractLsb' 31 1 == 1#1) = false := by
    rw [beq_eq_false_iff_ne]
    intro e
    have := congrArg BitVec.toNat e
    simp [BitVec.extractLsb'_toNat, Nat.shiftRight_eq_div_pow, h] at this
    omega
  have he : (v.extractLsb' 23 8).toNat = 127 := by
    simp [BitVec.extractLsb'_toNat, Nat.shiftRight_eq_div_pow, h]
    omega
  have hf : (v.extractLsb' 0 23).toNat = k := by
    simp [BitVec.extractLsb'_toNat, h]
    omega
  have : bit v = ((1 + k / 2 ^ 23 : ℝ) : EReal) := by
    rw [bit_normal hs he hf (by decide) (by decide)]
    congr 1
    push_cast
    norm_num
    ring
  rw [this, ← EReal.coe_sub]
  norm_num

/-- The uniform deviate is a real number strictly between minus one and one. -/
theorem uniform_inside (w : BitVec 32) : ∃ u : ℝ, uniform w = (u : EReal) ∧ -1 < u ∧ u < 1 := by
  have ht := top_lt w
  rw [uniform, unit_eq, span_eq, bit_lo]
  generalize (w >>> 9#32).toNat = k at ht
  refine ⟨max (-(16777215 / 16777216)) ((k : ℝ) / 2 ^ 23 * (33554431 / 16777216) + -(16777215 / 16777216)), ?_, ?_, ?_⟩
  · push_cast; rfl
  · exact lt_max_of_lt_left (by norm_num)
  · have : (k : ℝ) ≤ 8388607 := by exact_mod_cast (by omega : k ≤ 8388607)
    refine max_lt (by norm_num) ?_
    norm_num
    linarith

end Cert.Rng
-- ==== Proof.KernelWords.lean ====
module

public import proofs.«01_k».proof.Proof.Gen.KernelIdeal.Skeleton
public import proofs.«01_k».proof.Proof.Threefry
public import proofs.«01_k».proof.Proof.Normal

/-!
# The kernel's words

One block of the kernel computes its words from its counters alone.  The kernel's body is cut in parts; through each
part the pair of words at an index goes as `Rng.mix` and `Rng.key` carry it (`words_first` … `words_last`), so that
the block's floats in `[0, 1)` are `Rng.unit` of `Rng.word` at the counters (`unit_at`).  The kernel leaves out the sums
with the counter's high half, which is zero.
-/

@[expose] public section

noncomputable section

namespace Cert.KernelIdeal.Block

open Cert.KernelIdeal Cert.KernelIdeal.Gen Idealize.ShloMosaic

variable {s : Shape} {j : s.Idx} {p : BitVec 32 × BitVec 32}

/-- A round on vectors of words, at an index. -/
theorem mix_at (a b : IVec s 32) (r t : BitVec 32) (hr : r.toNat < 32) (ht : t.toNat < 32) (hp : (a j, b j) = p) :
    (addi a b j, xori (addi a b) (ori (shli b (broadcast s r)) (shrui b (broadcast s t))) j) = Rng.mix r t p := by
  subst hp
  refine Prod.ext rfl ?_
  show (a j + b j) ^^^ (IntOp.shli .vector (b j) r ||| IntOp.shrui .vector (b j) t) = _
  rw [IntOp.shli, IntOp.shrui, if_pos hr, if_pos ht]
  rfl

/-- A key addition on vectors of words, at an index. -/
theorem key_at (a b : IVec s 32) (n k l : BitVec 32) (hp : (a j, b j) = p) :
    (addi a (broadcast s k) j, addi (addi b (broadcast s l)) (broadcast s n) j) = Rng.key n k l p := by
  subst hp; rfl

variable {j : S16x128x128.Idx}

/-- The first part: from the counters plus the second key word to the first round of the second group. -/
theorem words_first (v32 : BitVec 32) (v35 v38 : IVec S16x128x128 32) (c : BitVec 32) :
    (k0_pay11 v32 v35 v38 c j, k0_pay12 v32 v35 v38 c j) =
      Rng.mix 17#32 15#32 (Rng.key 1#32 2#32 466688984#32 (Rng.roundsA (0#32, k0_pay3 v32 v35 v38 c j))) := by
  have h1 : (k0_pay3 v32 v35 v38 c j, k0_pay4 v32 v35 v38 c j) = Rng.mix 13#32 19#32 (0#32, k0_pay3 v32 v35 v38 c j) := by
    rw [Rng.mix]
    simp only [BitVec.zero_add]
    exact Prod.ext rfl rfl
  have h2 : (k0_pay5 v32 v35 v38 c j, k0_pay6 v32 v35 v38 c j) = _ :=
    mix_at (k0_pay3 v32 v35 v38 c) (k0_pay4 v32 v35 v38 c) 15#32 17#32 (by decide) (by decide) h1
  have h3 : (k0_pay7 v32 v35 v38 c j, k0_pay8 v32 v35 v38 c j) = _ :=
    mix_at (k0_pay5 v32 v35 v38 c) (k0_pay6 v32 v35 v38 c) 26#32 6#32 (by decide) (by decide) h2
  have h4 := mix_at (k0_pay7 v32 v35 v38 c) (k0_pay8 v32 v35 v38 c) 6#32 26#32 (by decide) (by decide) h3
  exact mix_at _ (k0_pay10 v32 v35 v38 c) 17#32 15#32 (by decide) (by decide) (key_at (k0_pay9 v32 v35 v38 c) _ 1#32 2#32 466688984#32 h4)

/-- The second part: from the second round of the second group to the third of the third group. -/
theorem words_second (a v83 : IVec S16x128x128 32) (h : (a j, v83 j) = p) :
    (k0_pay23 v83 (addi a v83) 29#32 j, xori (k0_pay23 v83 (addi a v83) 29#32) (k0_pay24 v83 (addi a v83) 29#32) j) =
      Rng.mix 26#32 6#32 (Rng.mix 15#32 17#32 (Rng.mix 13#32 19#32 (Rng.key 2#32 466688984#32 0#32
        (Rng.mix 24#32 8#32 (Rng.mix 16#32 16#32 (Rng.mix 29#32 3#32 p)))))) := by
  have h1 : (addi a v83 j, k0_pay14 v83 (addi a v83) 29#32 j) = _ := mix_at a v83 29#32 3#32 (by decide) (by decide) h
  generalize hv : addi a v83 = v84 at *
  have h2 : (k0_pay15 v83 v84 29#32 j, k0_pay16 v83 v84 29#32 j) = _ :=
    mix_at v84 (k0_pay14 v83 v84 29#32) 16#32 16#32 (by decide) (by decide) h1
  have h3 := mix_at (k0_pay15 v83 v84 29#32) (k0_pay16 v83 v84 29#32) 24#32 8#32 (by decide) (by decide) h2
  have h4 : (k0_pay19 v83 v84 29#32 j, k0_pay20 v83 v84 29#32 j) = _ :=
    mix_at _ (k0_pay18 v83 v84 29#32) 13#32 19#32 (by decide) (by decide) (key_at (k0_pay17 v83 v84 29#32) _ 2#32 466688984#32 0#32 h3)
  have h5 : (k0_pay21 v83 v84 29#32 j, k0_pay22 v83 v84 29#32 j) = _ :=
    mix_at (k0_pay19 v83 v84 29#32) (k0_pay20 v83 v84 29#32) 15#32 17#32 (by decide) (by decide) h4
  exact mix_at (k0_pay21 v83 v84 29#32) (k0_pay22 v83 v84 29#32) 26#32 6#32 (by decide) (by decide) h5

/-- The third part: from the last round of the third group to the end of the fourth group's rounds. -/
theorem words_third (v125 v130 : IVec S16x128x128 32) (h : (v125 j, xori v125 v130 j) = p) :
    (k0_pay34 v125 v130 j, k0_pay35 v125 v130 j) = Rng.roundsB (Rng.key 3#32 0#32 2#32 (Rng.mix 6#32 26#32 p)) := by
  have h1 := mix_at v125 (k0_pay25 v125 v130) 6#32 26#32 (by decide) (by decide) h
  have h2 : (k0_pay28 v125 v130 j, k0_pay29 v125 v130 j) = _ :=
    mix_at _ (k0_pay27 v125 v130) 17#32 15#32 (by decide) (by decide) (key_at (k0_pay26 v125 v130) _ 3#32 0#32 2#32 h1)
  have h3 : (k0_pay30 v125 v130 j, k0_pay31 v125 v130 j) = _ :=
    mix_at (k0_pay28 v125 v130) (k0_pay29 v125 v130) 29#32 3#32 (by decide) (by decide) h2
  have h4 : (k0_pay32 v125 v130 j, k0_pay33 v125 v130 j) = _ :=
    mix_at (k0_pay30 v125 v130) (k0_pay31 v125 v130) 16#32 16#32 (by decide) (by decide) h3
  exact mix_at (k0_pay32 v125 v130) (k0_pay33 v125 v130) 24#32 8#32 (by decide) (by decide) h4

/-- The end of the last part: the float in `[0, 1)` of the exclusive or of the two words. -/
theorem float_at (a b : IVec S16x128x128 32) (h : (a j, b j) = p) :
    subf (bitcastToFloat .f32 (ori (shrui (xori a b) (broadcast S16x128x128 9#32)) (broadcast S16x128x128 1065353216#32)))
      (broadcast S16x128x128 (Scalar.ofBits (F := Ideal) .f32 0x3F800000#32)) j = Rng.unit (p.1 ^^^ p.2) := by
  subst h
  show (Rng.bit (IntOp.shrui .vector (a j ^^^ b j) 9#32 ||| 1065353216#32) : EReal) - Rng.bit 0x3F800000#32 = _
  rw [IntOp.shrui, if_pos (by decide)]
  rfl

/-- The last part: the last group, and the float. -/
theorem words_last (a v172 : IVec S16x128x128 32) (h : (a j, v172 j) = p) {q : BitVec 32 × BitVec 32}
    (hq : Rng.key 5#32 466688984#32 0#32 (Rng.roundsA (Rng.key 4#32 2#32 466688984#32 p)) = q) :
    k0_pay38 (F := Ideal) v172 (addi a (broadcast S16x128x128 2#32)) k0_pay37 j = Rng.unit (q.1 ^^^ q.2) := by
  have h0 := key_at a v172 4#32 2#32 466688984#32 h
  have h1 := mix_at _ _ 13#32 19#32 (by decide) (by decide) h0
  have h2 := mix_at _ _ 15#32 17#32 (by decide) (by decide) h1
  have h3 := mix_at _ _ 26#32 6#32 (by decide) (by decide) h2
  have h4 := mix_at _ _ 6#32 26#32 (by decide) (by decide) h3
  exact float_at _ _ ((key_at _ _ 5#32 466688984#32 0#32 h4).trans hq)

end Cert.KernelIdeal.Block
-- ==== Proof.KernelUnit.lean ====
module

public import proofs.«01_k».proof.Proof.IdealBody
public import proofs.«01_k».proof.Proof.KernelWords

/-!
# The kernel's counters

Block `i` of the ten holds 16 of the 80 rows of one of the two halves, which is the run of 262144 places beginning at
`262144 * i`: its counters are those places (`counter_at`), and so its floats in `[0, 1)` are those of the words at
those places (`unit_at`).
-/

@[expose] public section

noncomputable section

namespace Cert.KernelIdeal.Block

open Cert.KernelIdeal Cert.KernelIdeal.Gen Idealize.ShloMosaic

/-- The place of element `j` of block `i`. -/
def placeOf (i : grid0.Coords) (j : S16x128x128.Idx) : ℕ :=
  262144 * (i 0).val + 16384 * (j 0).val + 128 * (j 1).val + (j 2).val

/-- What the kernel adds to a block's own counters: the block's first place and the second key word. -/
theorem base_eq (i : grid0.Coords) : base i = BitVec.ofNat 32 (262144 * (i 0).val + 2) := by
  unfold base
  generalize i 0 = n
  revert n
  decide

/-- The counters of block `i`, plus the second key word. -/
theorem counter_at (i : grid0.Coords) (j : S16x128x128.Idx) :
    k0_pay3 (BitVec.ofNat 32 (262144 * (i 0).val + 2)) lane k0_pay2 128#32 j =
      BitVec.ofNat 32 (placeOf i j) + 2#32 := by
  show (BitVec.ofNat 32 (0 * 16 + (j 0).val) * 128#32 + BitVec.ofNat 32 (0 * 128 + (j 1).val)) * 128#32 +
    BitVec.ofNat 32 (0 * 128 + (j 2).val) + BitVec.ofNat 32 (262144 * (i 0).val + 2) = _
  simp only [← BitVec.ofNat_add, ← BitVec.ofNat_mul]
  congr 1
  rw [placeOf]
  omega

/-- The float in `[0, 1)` at element `j` of block `i`. -/
theorem unit_at (i : grid0.Coords) (j : S16x128x128.Idx) :
    units (F := Ideal) i j = Rng.unit (Rng.word (BitVec.ofNat 32 (placeOf i j))) := by
  have h1 := words_first (j := j) (base i) lane k0_pay2 128#32
  rw [base_eq, counter_at, ← base_eq] at h1
  have h2 := words_second (k0_pay11 (base i) lane k0_pay2 128#32) (early i) h1
  have h3 := words_third (middle i) (middle' i) h2
  have h4 := words_last (k0_pay34 (middle i) (middle' i)) (k0_pay35 (middle i) (middle' i)) h3 rfl
  have hw : (BitVec.ofNat 32 (placeOf i j) : BitVec 32) = BitVec.ofNat 32 (placeOf i j) := rfl
  generalize BitVec.ofNat 32 (placeOf i j) = n at h4 hw ⊢
  have e : Rng.threefry 0#32 2#32 (0#32, n) = _ := rfl
  refine h4.trans ?_
  rw [Rng.word]
  refine congrArg (fun q : BitVec 32 × BitVec 32 => Rng.unit (q.1 ^^^ q.2)) ?_
  rw [Rng.threefry, show Rng.parity 0#32 2#32 = 466688984#32 by decide, BitVec.add_zero]
  rfl

end Cert.KernelIdeal.Block
-- ==== Proof.KernelNormal.lean ====
module

public import proofs.«01_k».proof.Proof.KernelUnit
public import Idealize.ShloMosaic.Lib.ValueIdx
public import Idealize.ShloMosaic.PureOps.IdealRules

/-!
# What one block of the kernel computes

Over the extended reals, from the float in `[0, 1)` at an index on: the uniform deviate (`uniform_at`), whose interval's
length is the named constant of the kernel, `w = -log (1 - u²)` (`log_at`), the two polynomials, and the normal deviate.
So block `i` stores at element `j` the normal deviate of the element's place (`stored_at`).
-/

@[expose] public section

noncomputable section

namespace Cert.KernelIdeal.Block

open Cert.KernelIdeal Cert.KernelIdeal.Gen Idealize.ShloMosaic

/-- The named constant is the length of the interval from `-(1 - 2⁻²⁴)` to one. -/
theorem span_named : (Named.named κ "span" 0x40000000#32 : Ideal .f32) = Rng.bit 0x3F800000#32 - Rng.bit 0xBF7FFFFF#32 :=
  (IdealRules.named_const.ideal_named_scalar _ _ _ _ rfl).trans Rng.span_eq.symm

/-- Horner's scheme with the sums the other way round. -/
theorem horner_comm (x : EReal) (c : BitVec 32) (cs : List (BitVec 32)) :
    cs.foldl (fun p k => p * x + Rng.bit k) (Rng.bit c) = Rng.horner x c cs :=
  congrArg (fun f => cs.foldl f (Rng.bit c)) (funext fun _ => funext fun _ => add_comm _ _)

variable {v : FVec Ideal S16x128x128 .f32} {j : S16x128x128.Idx} {w : BitVec 32}

/-- The uniform deviate. -/
theorem uniform_at (h : v j = Rng.unit w) : k0_pay39 v j = Rng.uniform w := by
  rw [Rng.uniform, ← h, ← span_named]
  rfl

/-- `-log (1 - u²)`, which the kernel makes by subtractions from zero. -/
theorem log_at : k0_pay40 v j = Rng.logTerm (k0_pay39 v j) := by
  show Rng.bit 0x00000000#32 - Ideal.log1p ((Rng.bit 0x00000000#32 - (k0_pay39 v j : EReal)) * (k0_pay39 v j : EReal)) = _
  rw [Rng.bit_zero, zero_sub, zero_sub, mul_comm]
  rfl

/-- The polynomial for small `w`. -/
theorem near_at : k0_pay41 v j = Rng.near ((k0_pay40 v j : EReal) - Rng.bit 0x40200000#32) :=
  (show k0_pay41 v j = List.foldl _ _ _ from rfl).trans (horner_comm _ _ _)

/-- The polynomial for large `w`. -/
theorem far_at (x : EReal) :
    [0x38D3B56B#32, 0x3AB0DC72#32, 0xBB70BDE7#32, 0x3BBC127B#32, 0xBBF9C5D7#32, 0x3C1AA57E#32, 0x3F8036DB#32,
      0x40354F7E#32].foldl (fun p k => p * x + Rng.bit k) (Rng.bit 0xB951F09B#32) = Rng.far x :=
  horner_comm _ _ _

/-- An element of a stored block, the leading coordinate dropped. -/
def inner (y : S1x16x128x128.Idx) : S16x128x128.Idx := Shape.reshapeEquiv (by decide) y

theorem inner_val (y : S1x16x128x128.Idx) :
    (inner y 0).val = (y 1).val ∧ (inner y 1).val = (y 2).val ∧ (inner y 2).val = (y 3).val := by
  have h : S16x128x128.numel = S1x16x128x128.numel := by decide
  have e : Shape.reshapeEquiv h (inner y) = y := (Shape.reshapeEquiv_reshapeEquiv _ _ y).trans (Shape.reshapeEquiv_self _ y)
  have c := e.symm.trans (Shape.reshapeEquiv_cons_one h (inner y))
  exact ⟨congrArg (fun z : S1x16x128x128.Idx => (z 1).val) c.symm, congrArg (fun z : S1x16x128x128.Idx => (z 2).val) c.symm,
    congrArg (fun z : S1x16x128x128.Idx => (z 3).val) c.symm⟩

/-- The last payload at an index, from its vectors there. -/
theorem payload_at (u w n r : FVec Ideal S16x128x128 .f32) (y : S1x16x128x128.Idx) :
    k0_pay1 u w n r k0_pay43 y = Rng.bit 0x3FB504F3#32 *
      ((if (w (inner y) : EReal) < Rng.bit 0x40A00000#32 then (n (inner y) : EReal) else Rng.far (r (inner y))) * u (inner y)) := by
  rw [← far_at]
  show Rng.bit 0x3FB504F3#32 * ((if BitVec.ofBool (decide ((w (inner y) : EReal) < Rng.bit 0x40A00000#32)) = 1#1 then _ else _) * _) = _
  simp only [Rng.bit_set]
  rfl

/-- The polynomial's argument for large `w`. -/
theorem root_at : k0_pay42 v j = Ideal.sqrt (k0_pay40 v j : EReal) - Rng.bit 0x40400000#32 := rfl

/-- The stored block at an index. -/
theorem stored_at (i : grid0.Coords) (y : S1x16x128x128.Idx) :
    stored (F := Ideal) i y = Rng.normal (BitVec.ofNat 32 (placeOf i (inner y))) := by
  have h := unit_at i (inner y)
  rw [stored]
  generalize units (F := Ideal) i = v at h
  rw [payload_at, near_at, root_at, log_at, uniform_at h, Rng.normal, Rng.erfInv]

end Cert.KernelIdeal.Block
-- ==== Proof.KernelArray.lean ====
module

public import proofs.«01_k».proof.Proof.IdealRun
public import proofs.«01_k».proof.Proof.KernelNormal

/-!
# The kernel's array

The ten blocks tile the result (`covers`), and each element of a block lies in the array at the place by which the
block counted it (`place_eq`), so the array ends holding at every index the normal deviate of the index's place
(`array_eq`).
-/

@[expose] public section

noncomputable section

namespace Cert.KernelIdeal.Launch

open Cert.KernelIdeal Cert.KernelIdeal.Gen
open Idealize.ShloMosaic Idealize.ShloMosaic.TcCoe Idealize.SL.Sem

variable (m : (ℓ : Loc nD τ sig) → Buf (Elt Ideal) ℓ)

/-- The row-major place of an index of the result. -/
def place (i : S2x80x128x128.Idx) : ℕ := Rng.place (i 0).val (i 1).val (i 2).val (i 3).val

/-- The result array that is shown. -/
def normals (c : Dev nD) : Buf (Elt Ideal) ((c : Thread nD τ).loc main_v0) :=
  fun i : S2x80x128x128.Idx => Rng.normal (BitVec.ofNat 32 (place i))

/-- The block that point `t` writes begins at row `16 (t mod 5)` of half `t / 5`. -/
theorem origin (t : Fin grid0.N) : win0_0.index t 0 = t.val / 5 ∧ win0_0.index t 1 = t.val % 5 ∧ win0_0.index t 2 = 0 ∧
    win0_0.index t 3 = 0 ∧ (grid0.coords t 0).val = t.val := by
  revert t; decide +kernel

/-- An element of block `t` lies in the array at the place by which the block counts it. -/
theorem place_eq (t : Fin grid0.N) (x : S1x16x128x128.Idx) :
    Block.placeOf (grid0.coords t) (Block.inner x) = place ((win0_0.rect t).emb x) := by
  obtain ⟨h0, h1, h2, h3, ht⟩ := origin t
  obtain ⟨e0, e1, e2⟩ := Block.inner_val x
  have x0 : (x 0).val = 0 := Nat.lt_one_iff.1 (x 0).isLt
  have a0 : ((win0_0.rect t).emb x 0).val = win0_0.index t 0 * 1 + 1 * (x 0).val := rfl
  have a1 : ((win0_0.rect t).emb x 1).val = win0_0.index t 1 * 16 + 1 * (x 1).val := rfl
  have a2 : ((win0_0.rect t).emb x 2).val = win0_0.index t 2 * 128 + 1 * (x 2).val := rfl
  have a3 : ((win0_0.rect t).emb x 3).val = win0_0.index t 3 * 128 + 1 * (x 3).val := rfl
  rw [Block.placeOf, place, Rng.place, a0, a1, a2, a3, h0, h1, h2, h3, ht, e0, e1, e2, x0]
  omega

/-- A block that holds a function of the places is the block at `t` of the array that holds it. -/
theorem cut_eq (c : Dev nD) (t : Fin cfg0.N) (f : ℕ → EReal) (X : Vec Ideal S1x16x128x128 .f32)
    (h : ∀ x, X x = f (Block.placeOf (grid0.coords t) (Block.inner x))) :
    (cfg0.win 0).cut (grid0.coords t) X = ((cfg0.win 0).blk t).view.read (Elt Ideal)
      ((fun i : S2x80x128x128.Idx => f (place i)) : Buf (Elt Ideal) ((c : Thread nD τ).loc main_v0)) :=
  funext fun x => (h x).trans (congrArg f (place_eq t x))

/-- The store is through the whole buffer, so the buffer holds the block stored. -/
theorem out_eq (i : grid0.Coords) : Block.out (F := Ideal) i = Block.stored (F := Ideal) i := by
  have hz : (![0, 0, 0, 0] : Fin 4 → ℕ) = fun _ => 0 := funext fun a => by fin_cases a <;> rfl
  rw [Block.out]
  generalize Block.stored (F := Ideal) i = X
  exact View.canon_unit_zero (Val := Elt Ideal) (e := .f32) (S := S1x16x128x128) hz inb_S1x16x128x128_S1x16x128x128_0_0_0_0 X

/-- What point `t` writes back is its block of the normal deviates. -/
theorem flushed_eq (c : Dev nD) (t : Fin cfg0.N) :
    (data m 0 c).flushed 0 t = ((cfg0.win 0).blk t).view.read (Elt Ideal) (normals c) := by
  show (cfg0.win 0).cut (grid0.coords t) ((data m 0 c).after 0 t) = _
  rw [data_after]
  exact cut_eq c t (fun n => Rng.normal (BitVec.ofNat 32 n)) _ fun x =>
    (congrFun (out_eq (grid0.coords t)) x).trans (Block.stored_at (grid0.coords t) x)

/-- Every index of the result is in a block. -/
theorem covers (i : S2x80x128x128.Idx) :
    ∃ t : Fin cfg0.N, (cfg0.win 0).flush t = true ∧ i ∈ ((cfg0.win 0).blk t).view.set := by
  have l0 : (i 0).val < 2 := (i 0).isLt
  have l1 : (i 1).val < 80 := (i 1).isLt
  have l2 : (i 2).val < 128 := (i 2).isLt
  have l3 : (i 3).val < 128 := (i 3).isLt
  have hN : cfg0.N = 10 := N_0
  refine ⟨⟨5 * (i 0).val + (i 1).val / 16, by omega⟩, flush0_0 _, ?_⟩
  generalize ht : (⟨5 * (i 0).val + (i 1).val / 16, _⟩ : Fin cfg0.N) = t
  have hv : t.val = 5 * (i 0).val + (i 1).val / 16 := by rw [← ht]
  obtain ⟨h0, h1, h2, h3, -⟩ := origin t
  show i ∈ ((View.whole main_v0).slice (win0_0.rect t)).set
  rw [View.set_slice_whole, Rect.mem_set_unit]
  intro a
  match a with
  | ⟨0, _⟩ =>
    show win0_0.index t 0 * 1 ≤ (i 0).val ∧ (i 0).val < win0_0.index t 0 * 1 + 1
    omega
  | ⟨1, _⟩ =>
    show win0_0.index t 1 * 16 ≤ (i 1).val ∧ (i 1).val < win0_0.index t 1 * 16 + 16
    omega
  | ⟨2, _⟩ =>
    show win0_0.index t 2 * 128 ≤ (i 2).val ∧ (i 2).val < win0_0.index t 2 * 128 + 128
    omega
  | ⟨3, _⟩ =>
    show win0_0.index t 3 * 128 ≤ (i 3).val ∧ (i 3).val < win0_0.index t 3 * 128 + 128
    omega

/-- The array ends holding the normal deviates. -/
theorem array_eq (c : Dev nD) : (data m 0 c).arrAt 0 cfg0.N = normals c :=
  (data m 0 c).arrAt_eq_of_cover 0 (normals c) (fun t _ => flushed_eq m c t) covers

end Cert.KernelIdeal.Launch
-- ==== Proof.SingleAssign.lean ====
module

public import Idealize.ShloMosaic.Lib.StableHlo.Run

/-!
# Straight lines that write each buffer once

A host program of tensor values gives every value a buffer of its own, and an operation reads only buffers
written before it.  Number the buffers in that order.  Then once the whole line has run, EVERY operation's
equation holds in the final memory at once: the buffer it wrote still holds its function of what the buffers it
read still hold.  So the final memory is read as a system of equations, one per operation, in any order.

`Numbered n ops` is the condition (operation `k` of the line writes buffer number `n + k` and reads smaller
numbers), `Settled W op` is "the equation of `op` holds in the memory `W`", and `settled_after` is the fact above.
`at_unary` … read a settled operation as its equation.
-/

@[expose] public section

noncomputable section

namespace Cert.Host

open Idealize.ShloMosaic Idealize.ShloMosaic.TcCoe Idealize.ShloMosaic.StableHlo

variable {τ : Topo} {sig : RefSig} {Val : EltTy → Type}

/-- A buffer's number: its place among the buffers of its space. -/
def num (r : Ref sig .tc) : ℕ := r.idx.val

/-- What a memory holds in a typed value's buffer, at the value's own type. -/
def rd (W : Valuation τ sig Val) {T : BufTy} (x : TRef sig T) : T.Contents Val := x.ofBuf (W (Proc.devRef .tc x.ref))

/-- `op` writes buffer number `n` alone, a function of buffers with smaller numbers. -/
def Writes (n : ℕ) (op : HloOp τ sig Val) : Prop :=
  op.bufs ⊆ tcRefs τ sig ∧ op.fresh = ∅ ∧ ∃ y : Ref sig .tc, num y = n ∧ op.writes = {Proc.devRef .tc y} ∧
    ∀ V W : Valuation τ sig Val, (∀ r : Ref sig .tc, num r < n → V (Proc.devRef .tc r) = W (Proc.devRef .tc r)) →
      op.result V (Proc.devRef .tc y) = op.result W (Proc.devRef .tc y)

/-- The operations write buffers `n`, `n + 1`, … in turn, each from earlier ones. -/
def Numbered : ℕ → List (HloOp τ sig Val) → Prop
  | _, [] => True
  | n, op :: ops => Writes n op ∧ Numbered (n + 1) ops

theorem numbered_append {ops₁ ops₂ : List (HloOp τ sig Val)} :
    ∀ {n : ℕ}, Numbered n ops₁ → Numbered (n + ops₁.length) ops₂ → Numbered n (ops₁ ++ ops₂) := by
  induction ops₁ with
  | nil => intro n _ h; simpa using h
  | cons op ops ih =>
    intro n h₁ h₂
    refine ⟨h₁.1, ih h₁.2 ?_⟩
    rwa [show n + 1 + ops.length = n + (op :: ops).length by simp only [List.length_cons]; omega]

/-- A numbered line touches host values only. -/
theorem Numbered.sub {ops : List (HloOp τ sig Val)} : ∀ {n : ℕ}, Numbered n ops →
    ops.Forall fun op => op.bufs ⊆ tcRefs τ sig := by
  induction ops with
  | nil => intro _ _; trivial
  | cons op ops ih => intro n h; exact (List.forall_cons _ _ _).mpr ⟨h.1.1, ih h.2⟩

/-- A numbered line determines everything it writes. -/
theorem Numbered.fresh {ops : List (HloOp τ sig Val)} : ∀ {n : ℕ}, Numbered n ops → ∀ op ∈ ops, op.fresh = ∅ := by
  induction ops with
  | nil => intro _ _ _ h; cases h
  | cons op ops ih =>
    intro n h o ho
    rcases List.mem_cons.mp ho with rfl | ho
    · exact h.1.2.1
    · exact ih h.2 o ho

/-- A buffer numbered below the line's first is as it was. -/
theorem Numbered.keep {ops : List (HloOp τ sig Val)} : ∀ {n : ℕ}, Numbered n ops → ∀ (V : Valuation τ sig Val)
    (r : Ref sig .tc), num r < n → after ops V (Proc.devRef .tc r) = V (Proc.devRef .tc r) := by
  induction ops with
  | nil => intro _ _ _ _ _; rfl
  | cons op ops ih =>
    intro n h V r hr
    obtain ⟨-, -, y, hy, hw, -⟩ := h.1
    rw [after_cons, ih h.2 _ r (by omega)]
    exact result_of_writes_ne op V y r hw fun e => by rw [e] at hr; omega

/-- The equation of `op` holds in the memory `W`: what it writes is already there. -/
def Settled (W : Valuation τ sig Val) (op : HloOp τ sig Val) : Prop :=
  ∀ y : Ref sig .tc, op.writes = {Proc.devRef .tc y} → op.result W (Proc.devRef .tc y) = W (Proc.devRef .tc y)

/-- All the operations' equations hold in the memory `W`. -/
def AllSettled (W : Valuation τ sig Val) (ops : List (HloOp τ sig Val)) : Prop := ∀ op ∈ ops, Settled W op

theorem AllSettled.append {W : Valuation τ sig Val} {ops₁ ops₂ : List (HloOp τ sig Val)} (h : AllSettled W (ops₁ ++ ops₂)) :
    AllSettled W ops₁ ∧ AllSettled W ops₂ :=
  ⟨fun o ho => h o (List.mem_append_left _ ho), fun o ho => h o (List.mem_append_right _ ho)⟩

theorem AllSettled.cons {W : Valuation τ sig Val} {op : HloOp τ sig Val} {ops : List (HloOp τ sig Val)}
    (h : AllSettled W (op :: ops)) : Settled W op ∧ AllSettled W ops :=
  ⟨h op List.mem_cons_self, fun o ho => h o (List.mem_cons_of_mem _ ho)⟩

/-- Once a numbered line has run, every one of its equations holds. -/
theorem settled_after {ops : List (HloOp τ sig Val)} : ∀ {n : ℕ}, Numbered n ops → ∀ V : Valuation τ sig Val,
    AllSettled (after ops V) ops := by
  induction ops with
  | nil => intro _ _ _ _ h; cases h
  | cons op ops ih =>
    intro n h V o ho
    rcases List.mem_cons.mp ho with rfl | ho
    · obtain ⟨-, -, y, hy, hw, hc⟩ := h.1
      intro z hz
      have e : z = y := Proc.devRef_injective _ (Finset.singleton_injective (hz.symm.trans hw))
      subst e
      rw [after_cons, h.2.keep _ z (by omega)]
      refine hc _ _ fun r hr => ?_
      rw [h.2.keep _ r (by omega)]
      exact result_of_writes_ne o V z r hw fun e => by rw [e] at hr; omega
    · exact ih h.2 _ o ho

/-! ### Each builder's operation is numbered, and its equation -/

variable {T Tx Ta Tb Tc Ty : BufTy}

theorem writes_nullary {n : ℕ} (y : TRef sig Ty) (v : Ty.Contents Val) (hy : num y.ref = n) :
    Writes (τ := τ) n (TRef.nullary y v) :=
  ⟨nullary_bufs_sub .., rfl, y.ref, hy, rfl, fun V W _ => by rw [nullary_result, nullary_result]⟩

theorem writes_unary {n : ℕ} (x : TRef sig Tx) (y : TRef sig Ty) (f : Tx.Contents Val → Ty.Contents Val)
    (hy : num y.ref = n) (hx : num x.ref < n) : Writes (τ := τ) n (TRef.unary x y f) :=
  ⟨unary_bufs_sub .., rfl, y.ref, hy, rfl, fun V W h => by rw [unary_result, unary_result, h _ hx]⟩

theorem writes_binary {n : ℕ} (a : TRef sig Ta) (b : TRef sig Tb) (y : TRef sig Ty)
    (f : Ta.Contents Val → Tb.Contents Val → Ty.Contents Val) (hy : num y.ref = n) (ha : num a.ref < n)
    (hb : num b.ref < n) : Writes (τ := τ) n (TRef.binary a b y f) :=
  ⟨binary_bufs_sub .., rfl, y.ref, hy, rfl, fun V W h => by rw [binary_result, binary_result, h _ ha, h _ hb]⟩

theorem writes_ternary {n : ℕ} (c : TRef sig Tc) (a : TRef sig Ta) (b : TRef sig Tb) (y : TRef sig Ty)
    (f : Tc.Contents Val → Ta.Contents Val → Tb.Contents Val → Ty.Contents Val) (hy : num y.ref = n)
    (hc : num c.ref < n) (ha : num a.ref < n) (hb : num b.ref < n) : Writes (τ := τ) n (TRef.ternary c a b y f) :=
  ⟨ternary_bufs_sub .., rfl, y.ref, hy, rfl, fun V W h => by
    rw [ternary_result, ternary_result, h _ hc, h _ ha, h _ hb]⟩

theorem writes_reshape {n : ℕ} (x : TRef sig Tx) (y : TRef sig Ty) (he : Tx.elt = Ty.elt)
    (hn : Tx.shape.ShapeCasts Ty.shape) (hy : num y.ref = n) (hx : num x.ref < n) :
    Writes (τ := τ) (Val := Val) n (TRef.reshape x y he hn) :=
  ⟨reshape_bufs_sub .., rfl, y.ref, hy, rfl, fun V W h => by rw [reshape_result, reshape_result, h _ hx]⟩

variable {W : Valuation τ sig Val}

theorem at_nullary {y : TRef sig Ty} {v : Ty.Contents Val} (h : Settled W (TRef.nullary y v)) : rd W y = v := by
  have h := h y.ref rfl
  rw [nullary_result] at h
  rw [rd, ← h, TRef.ofBuf, TRef.toBuf, cast_cast, cast_eq]

theorem at_unary {x : TRef sig Tx} {y : TRef sig Ty} {f : Tx.Contents Val → Ty.Contents Val}
    (h : Settled W (TRef.unary x y f)) : rd W y = f (rd W x) := by
  have h := h y.ref rfl
  rw [unary_result] at h
  rw [rd, ← h, TRef.ofBuf, TRef.toBuf, cast_cast, cast_eq]
  rfl

theorem at_binary {a : TRef sig Ta} {b : TRef sig Tb} {y : TRef sig Ty}
    {f : Ta.Contents Val → Tb.Contents Val → Ty.Contents Val} (h : Settled W (TRef.binary a b y f)) :
    rd W y = f (rd W a) (rd W b) := by
  have h := h y.ref rfl
  rw [binary_result] at h
  rw [rd, ← h, TRef.ofBuf, TRef.toBuf, cast_cast, cast_eq]
  rfl

theorem at_ternary {c : TRef sig Tc} {a : TRef sig Ta} {b : TRef sig Tb} {y : TRef sig Ty}
    {f : Tc.Contents Val → Ta.Contents Val → Tb.Contents Val → Ty.Contents Val}
    (h : Settled W (TRef.ternary c a b y f)) : rd W y = f (rd W c) (rd W a) (rd W b) := by
  have h := h y.ref rfl
  rw [ternary_result] at h
  rw [rd, ← h, TRef.ofBuf, TRef.toBuf, cast_cast, cast_eq]
  rfl

theorem at_reshape {x : TRef sig Tx} {y : TRef sig Ty} {he : Tx.elt = Ty.elt} {hn : Tx.shape.ShapeCasts Ty.shape}
    (h : Settled W (TRef.reshape x y he hn)) : rd W y = fun i => he ▸ shapeCast Ty.shape (rd W x) hn i := by
  obtain ⟨x, rfl, hx, hx'⟩ := x
  obtain ⟨y, rfl, hy, hy'⟩ := y
  have h := h y rfl
  rw [reshape_result] at h
  exact h.symm

end Cert.Host
-- ==== Proof.RefOps.lean ====
module

public import proofs.«01_k».proof.Proof.Gen.ReferenceIdeal
public import proofs.«01_k».proof.Proof.SingleAssign

/-!
# The reference as a list of operations

The reference is a host program: the counters and the threefry-2x32 words of `jax.random.uniform`, the floats made of
those words, and the inverse error function.  Here its operations stand in order, a called function's in its call's
place (`main.ops`), grouped as the computation is: `mixOps` is one threefry round, `keyOps` one key addition,
`coefOps` the choice of one coefficient, `hornerOps` one step of Horner's scheme.  That running
the list is running the program, and what a run leaves, is stated in RefRun.lean.
-/

@[expose] public section

noncomputable section

namespace Cert.ReferenceIdeal.Line

open Cert.ReferenceIdeal Cert.ReferenceIdeal.Gen Cert.Host
open Idealize.ShloMosaic Idealize.ShloMosaic.TcCoe Idealize.SL.Sem Idealize.ShloMosaic.StableHlo

variable {F : FTy → Type} [FloatOps F]

/-- A value of no dimension at every index of the result's shape. -/
abbrev spread {α : Type} (x : S_.Idx → α) : S2x80x128x128.Idx → α := broadcastInDim S2x80x128x128 ![] bcast_S_S2x80x128x128 x

/-- A value of one element at every index of the result's shape. -/
abbrev spread1 {α : Type} (x : S1x1x1x1.Idx → α) : S2x80x128x128.Idx → α :=
  broadcastInDim S2x80x128x128 ![0, 1, 2, 3] bcast_S1x1x1x1_S2x80x128x128_0_1_2_3 x

/-- Words of the result's shape. -/
abbrev Ws := TRef sig ⟨S2x80x128x128, .i32⟩
/-- One word. -/
abbrev W1 := TRef sig ⟨S_, .i32⟩
/-- Floats of the result's shape. -/
abbrev Fs := TRef sig ⟨S2x80x128x128, .f32⟩
/-- One float. -/
abbrev F1 := TRef sig ⟨S_, .f32⟩

/-- One threefry round on the words `(a, b)`: `a' = a + b`, `b' = a' ^ (b << r | b >> s)`. -/
def mixOps (r s : BitVec 32) (a b a' : Ws) (c : W1) (d e : Ws) (c' : W1) (d' e' o b' : Ws) : List (HloOp τ sig (Elt F)) :=
  [ TRef.binary a b a' addi,
    TRef.nullary c (constantI S_ 32 r), TRef.unary c d spread, TRef.binary b d e Host.shli,
    TRef.nullary c' (constantI S_ 32 s), TRef.unary c' d' spread, TRef.binary b d' e' Host.shrui,
    TRef.binary e e' o ori, TRef.binary a' o b' xori ]

/-- One key addition on the words `(a, b)`: `a' = a + k`, `b' = b + l + n`. -/
def keyOps (n : BitVec 32) (k l : W1) (a b d a' d' e : Ws) (c : W1) (d'' b' : Ws) : List (HloOp τ sig (Elt F)) :=
  [ TRef.unary k d spread, TRef.binary a d a' addi, TRef.unary l d' spread, TRef.binary b d' e addi,
    TRef.nullary c (constantI S_ 32 n), TRef.unary c d'' spread, TRef.binary e d'' b' addi ]

/-- The words `arg2`, `arg3` plus the two key words, and the third key word. -/
def setupOps (arg0 arg1 : W1) (arg2 arg3 : Ws) (φ : fn_threefry2x32.Bufs) : List (HloOp τ sig (Elt F)) :=
  [ TRef.binary arg0 arg1 φ.v0 xori,
    TRef.nullary φ.c (constantI S_ 32 466688986#32),
    TRef.binary φ.v0 φ.c φ.v1 xori,
    TRef.unary arg0 φ.v2 spread,
    TRef.binary arg2 φ.v2 φ.v3 addi,
    TRef.unary arg1 φ.v4 spread,
    TRef.binary arg3 φ.v4 φ.v5 addi ]

/-- Group 0: four rounds and a key addition. -/
def groupOps0 (arg1 : W1) (φ : fn_threefry2x32.Bufs) : List (HloOp τ sig (Elt F)) :=
  mixOps 13#32 19#32 φ.v3 φ.v5 φ.v6 φ.c_0 φ.v7 φ.v8 φ.c_1 φ.v9 φ.v10 φ.v11 φ.v12 ++
    (mixOps 15#32 17#32 φ.v6 φ.v12 φ.v13 φ.c_2 φ.v14 φ.v15 φ.c_3 φ.v16 φ.v17 φ.v18 φ.v19 ++
    (mixOps 26#32 6#32 φ.v13 φ.v19 φ.v20 φ.c_4 φ.v21 φ.v22 φ.c_5 φ.v23 φ.v24 φ.v25 φ.v26 ++
    (mixOps 6#32 26#32 φ.v20 φ.v26 φ.v27 φ.c_6 φ.v28 φ.v29 φ.c_7 φ.v30 φ.v31 φ.v32 φ.v33 ++
    (keyOps 1#32 arg1 φ.v1 φ.v27 φ.v33 φ.v34 φ.v35 φ.v36 φ.v37 φ.c_8 φ.v38 φ.v39))))

/-- Group 1: four rounds and a key addition. -/
def groupOps1 (arg0 : W1) (φ : fn_threefry2x32.Bufs) : List (HloOp τ sig (Elt F)) :=
  mixOps 17#32 15#32 φ.v35 φ.v39 φ.v40 φ.c_9 φ.v41 φ.v42 φ.c_10 φ.v43 φ.v44 φ.v45 φ.v46 ++
    (mixOps 29#32 3#32 φ.v40 φ.v46 φ.v47 φ.c_11 φ.v48 φ.v49 φ.c_12 φ.v50 φ.v51 φ.v52 φ.v53 ++
    (mixOps 16#32 16#32 φ.v47 φ.v53 φ.v54 φ.c_13 φ.v55 φ.v56 φ.c_14 φ.v57 φ.v58 φ.v59 φ.v60 ++
    (mixOps 24#32 8#32 φ.v54 φ.v60 φ.v61 φ.c_15 φ.v62 φ.v63 φ.c_16 φ.v64 φ.v65 φ.v66 φ.v67 ++
    (keyOps 2#32 φ.v1 arg0 φ.v61 φ.v67 φ.v68 φ.v69 φ.v70 φ.v71 φ.c_17 φ.v72 φ.v73))))

/-- Group 2: four rounds and a key addition. -/
def groupOps2 (arg0 arg1 : W1) (φ : fn_threefry2x32.Bufs) : List (HloOp τ sig (Elt F)) :=
  mixOps 13#32 19#32 φ.v69 φ.v73 φ.v74 φ.c_18 φ.v75 φ.v76 φ.c_19 φ.v77 φ.v78 φ.v79 φ.v80 ++
    (mixOps 15#32 17#32 φ.v74 φ.v80 φ.v81 φ.c_20 φ.v82 φ.v83 φ.c_21 φ.v84 φ.v85 φ.v86 φ.v87 ++
    (mixOps 26#32 6#32 φ.v81 φ.v87 φ.v88 φ.c_22 φ.v89 φ.v90 φ.c_23 φ.v91 φ.v92 φ.v93 φ.v94 ++
    (mixOps 6#32 26#32 φ.v88 φ.v94 φ.v95 φ.c_24 φ.v96 φ.v97 φ.c_25 φ.v98 φ.v99 φ.v100 φ.v101 ++
    (keyOps 3#32 arg0 arg1 φ.v95 φ.v101 φ.v102 φ.v103 φ.v104 φ.v105 φ.c_26 φ.v106 φ.v107))))

/-- Group 3: four rounds and a key addition. -/
def groupOps3 (arg1 : W1) (φ : fn_threefry2x32.Bufs) : List (HloOp τ sig (Elt F)) :=
  mixOps 17#32 15#32 φ.v103 φ.v107 φ.v108 φ.c_27 φ.v109 φ.v110 φ.c_28 φ.v111 φ.v112 φ.v113 φ.v114 ++
    (mixOps 29#32 3#32 φ.v108 φ.v114 φ.v115 φ.c_29 φ.v116 φ.v117 φ.c_30 φ.v118 φ.v119 φ.v120 φ.v121 ++
    (mixOps 16#32 16#32 φ.v115 φ.v121 φ.v122 φ.c_31 φ.v123 φ.v124 φ.c_32 φ.v125 φ.v126 φ.v127 φ.v128 ++
    (mixOps 24#32 8#32 φ.v122 φ.v128 φ.v129 φ.c_33 φ.v130 φ.v131 φ.c_34 φ.v132 φ.v133 φ.v134 φ.v135 ++
    (keyOps 4#32 arg1 φ.v1 φ.v129 φ.v135 φ.v136 φ.v137 φ.v138 φ.v139 φ.c_35 φ.v140 φ.v141))))

/-- Group 4: four rounds and a key addition. -/
def groupOps4 (arg0 : W1) (φ : fn_threefry2x32.Bufs) : List (HloOp τ sig (Elt F)) :=
  mixOps 13#32 19#32 φ.v137 φ.v141 φ.v142 φ.c_36 φ.v143 φ.v144 φ.c_37 φ.v145 φ.v146 φ.v147 φ.v148 ++
    (mixOps 15#32 17#32 φ.v142 φ.v148 φ.v149 φ.c_38 φ.v150 φ.v151 φ.c_39 φ.v152 φ.v153 φ.v154 φ.v155 ++
    (mixOps 26#32 6#32 φ.v149 φ.v155 φ.v156 φ.c_40 φ.v157 φ.v158 φ.c_41 φ.v159 φ.v160 φ.v161 φ.v162 ++
    (mixOps 6#32 26#32 φ.v156 φ.v162 φ.v163 φ.c_42 φ.v164 φ.v165 φ.c_43 φ.v166 φ.v167 φ.v168 φ.v169 ++
    (keyOps 5#32 φ.v1 arg0 φ.v163 φ.v169 φ.v170 φ.v171 φ.v172 φ.v173 φ.c_44 φ.v174 φ.v175))))

/-- Threefry-2x32: five groups of four rounds and a key addition. -/
def threefryOps (arg0 arg1 : W1) (arg2 arg3 : Ws) (φ : fn_threefry2x32.Bufs) : List (HloOp τ sig (Elt F)) :=
  setupOps arg0 arg1 arg2 arg3 φ ++ (groupOps0 arg1 φ ++ (groupOps1 arg0 φ ++ (groupOps2 arg0 arg1 φ ++ (groupOps3 arg1 φ ++ groupOps4 arg0 φ))))

/-- The 64-bit counters of the elements, cut in two words each. -/
def counterOps (arg0 : TRef sig ⟨S2, .i32⟩) (arg1 arg2 : F1) (φ : fn_uniform.Bufs) : List (HloOp τ sig (Elt F)) :=
  [ TRef.unary arg1 φ.v0 (broadcastInDim S1x1x1x1 ![] bcast_S_S1x1x1x1),
    TRef.unary arg2 φ.v1 (broadcastInDim S1x1x1x1 ![] bcast_S_S1x1x1x1),
    TRef.unary arg0 φ.v2 (extractStridedSlice S1 ![0] · slices_S2_S1_0),
    TRef.reshape φ.v2 φ.v3 (rfl : (.i32 : EltTy) = .i32) shapeCasts_S1_S_,
    TRef.unary arg0 φ.v4 (extractStridedSlice S1 ![1] · slices_S2_S1_1),
    TRef.reshape φ.v4 φ.v5 (rfl : (.i32 : EltTy) = .i32) shapeCasts_S1_S_,
    TRef.nullary φ.v6 (iotaInDim S2x80x128x128 64 0),
    TRef.nullary φ.v7 (iotaInDim S2x80x128x128 64 1),
    TRef.nullary φ.v8 (iotaInDim S2x80x128x128 64 2),
    TRef.nullary φ.v9 (iotaInDim S2x80x128x128 64 3),
    TRef.nullary φ.c (constantI S_ 64 1310720#64),
    TRef.unary φ.c φ.v10 spread,
    TRef.binary φ.v10 φ.v6 φ.v11 muli,
    TRef.nullary φ.c_0 (constantI S_ 64 16384#64),
    TRef.unary φ.c_0 φ.v12 spread,
    TRef.binary φ.v12 φ.v7 φ.v13 muli,
    TRef.nullary φ.c_1 (constantI S_ 64 128#64),
    TRef.unary φ.c_1 φ.v14 spread,
    TRef.binary φ.v14 φ.v8 φ.v15 muli,
    TRef.nullary φ.c_2 (constantI S_ 64 1#64),
    TRef.unary φ.c_2 φ.v16 spread,
    TRef.binary φ.v16 φ.v9 φ.v17 muli,
    TRef.binary φ.v11 φ.v13 φ.v18 addi,
    TRef.binary φ.v18 φ.v15 φ.v19 addi,
    TRef.binary φ.v19 φ.v17 φ.v20 addi,
    TRef.nullary φ.c_3 (constantI S_ 64 32#64),
    TRef.unary φ.c_3 φ.v21 spread,
    TRef.binary φ.v20 φ.v21 φ.v22 Host.shrui,
    TRef.unary φ.v20 φ.v23 (trunci 32 · natLt_32_64),
    TRef.unary φ.v22 φ.v24 (trunci 32 · natLt_32_64) ]

/-- The floats in `[arg1, arg2)` made of the words. -/
def floatOps (φ : fn_uniform.Bufs) : List (HloOp τ sig (Elt F)) :=
  [ TRef.binary φ.call0.v171 φ.call0.v175 φ.v26 xori,
    TRef.nullary φ.c_4 (constantI S_ 32 9#32),
    TRef.unary φ.c_4 φ.v27 spread,
    TRef.binary φ.v26 φ.v27 φ.v28 Host.shrui,
    TRef.nullary φ.c_5 (constantI S_ 32 1065353216#32),
    TRef.unary φ.c_5 φ.v29 spread,
    TRef.binary φ.v28 φ.v29 φ.v30 ori,
    TRef.unary φ.v30 φ.v31 (bitcastToFloat .f32),
    TRef.nullary φ.cst (constant S_ .f32 0x3F800000#32),
    TRef.unary φ.cst φ.v32 spread,
    TRef.binary φ.v31 φ.v32 φ.v33 subf,
    TRef.binary φ.v1 φ.v0 φ.v34 subf,
    TRef.unary φ.v34 φ.v35 spread1,
    TRef.binary φ.v33 φ.v35 φ.v36 mulf,
    TRef.unary φ.v0 φ.v37 spread1,
    TRef.binary φ.v36 φ.v37 φ.v38 addf,
    TRef.unary φ.v0 φ.v39 spread1,
    TRef.binary φ.v39 φ.v38 φ.v40 maximumf ]

/-- The uniform floats. -/
def uniformOps (arg0 : TRef sig ⟨S2, .i32⟩) (arg1 arg2 : F1) (φ : fn_uniform.Bufs) : List (HloOp τ sig (Elt F)) :=
  counterOps arg0 arg1 arg2 φ ++ (threefryOps φ.v3 φ.v5 φ.v24 φ.v23 φ.call0 ++ floatOps φ)

/-- One coefficient: `k` where the condition holds, `l` elsewhere. -/
def coefOps (k l : BitVec 32) (kb lb : F1) (lt : TRef sig ⟨S2x80x128x128, .i1⟩) (φ : fn_where_0.Bufs) : List (HloOp τ sig (Elt F)) :=
  [ TRef.nullary kb (constant S_ .f32 k), TRef.nullary lb (constant S_ .f32 l), TRef.unary kb φ.v0 spread,
    TRef.unary lb φ.v1 spread, TRef.ternary lt φ.v0 φ.v1 φ.v2 select ]

/-- One step of Horner's scheme: `q = coefficient + p · w`. -/
def hornerOps (k l : BitVec 32) (kb lb : F1) (lt : TRef sig ⟨S2x80x128x128, .i1⟩) (φ : fn_where_0.Bufs) (p w m q : Fs) :
    List (HloOp τ sig (Elt F)) :=
  coefOps k l kb lb lt φ ++ [ TRef.binary p w m mulf, TRef.binary φ.v2 m q addf ]

/-- The key, and the ends of the interval. -/
def main.keyOps : List (HloOp τ sig (Elt F)) :=
  [ TRef.nullary (.of main_c) (constantI S_ 32 2#32),
    TRef.nullary (.of main_c_0) (constantI S_ 32 32#32),
    TRef.binary (.of main_c) (.of main_c_0) (.of main_v0) Host.shrui,
    TRef.unary (.of main_v0) (.of main_v1) id,
    TRef.unary (.of main_v1) (.of main_v2) (broadcastInDim S1 ![] bcast_S_S1),
    TRef.nullary (.of main_c_1) (constantI S_ 32 4294967295#32),
    TRef.binary (.of main_c) (.of main_c_1) (.of main_v3) andi,
    TRef.unary (.of main_v3) (.of main_v4) id,
    TRef.unary (.of main_v4) (.of main_v5) (broadcastInDim S1 ![] bcast_S_S1),
    TRef.binary (.of main_v2) (.of main_v5) (.of main_v6) (fun a b => concatenate S2 0 [⟨S1, a⟩, ⟨S1, b⟩] concatenates_S1_S1_S2_d0),
    TRef.nullary (.of main_cst) (constant S_ .f32 0xBF7FFFFF#32),
    TRef.nullary (.of main_cst_2) (constant S_ .f32 0x3F800000#32) ]

/-- `w = -log (1 - x²)` and its two shifted forms. -/
def main.logOps : List (HloOp τ sig (Elt F)) :=
  [ TRef.unary (.of main_v7) (.of main_v8) Host.negf,
    TRef.binary (.of main_v7) (.of main_v8) (.of main_v9) mulf,
    TRef.unary (.of main_v9) (.of main_v10) Host.log1p,
    TRef.unary (.of main_v10) (.of main_v11) Host.negf,
    TRef.nullary (.of main_cst_3) (constant S_ .f32 0x40A00000#32),
    TRef.unary (.of main_cst_3) (.of main_v12) spread,
    TRef.binary (.of main_v11) (.of main_v12) (.of main_v13) (cmpf .olt),
    TRef.nullary (.of main_cst_4) (constant S_ .f32 0x40200000#32),
    TRef.unary (.of main_cst_4) (.of main_v14) spread,
    TRef.binary (.of main_v11) (.of main_v14) (.of main_v15) subf,
    TRef.unary (.of main_v11) (.of main_v16) Host.sqrt,
    TRef.nullary (.of main_cst_5) (constant S_ .f32 0x40400000#32),
    TRef.unary (.of main_cst_5) (.of main_v17) spread,
    TRef.binary (.of main_v16) (.of main_v17) (.of main_v18) subf,
    TRef.ternary (.of main_v13) (.of main_v15) (.of main_v18) main_call1.v0 select ]

/-- The polynomial. -/
def main.polyOps : List (HloOp τ sig (Elt F)) :=
  coefOps 0x32F16588#32 0xB951F09B#32 (.of main_cst_6) (.of main_cst_7) (.of main_v13) main_call2 ++
    (hornerOps 0x34B84B36#32 0x38D3B56B#32 (.of main_cst_8) (.of main_cst_9) (.of main_v13) main_call3 (.of main_v20) (.of main_v19) (.of main_v22) (.of main_v23) ++
    (hornerOps 0xB66C7357#32 0x3AB0DC72#32 (.of main_cst_10) (.of main_cst_11) (.of main_v13) main_call4 (.of main_v23) (.of main_v19) (.of main_v25) (.of main_v26) ++
    (hornerOps 0xB6935AC1#32 0xBB70BDE7#32 (.of main_cst_12) (.of main_cst_13) (.of main_v13) main_call5 (.of main_v26) (.of main_v19) (.of main_v28) (.of main_v29) ++
    (hornerOps 0x396532DB#32 0x3BBC127B#32 (.of main_cst_14) (.of main_cst_15) (.of main_v13) main_call6 (.of main_v29) (.of main_v19) (.of main_v31) (.of main_v32) ++
    (hornerOps 0xBAA45408#32 0xBBF9C5D7#32 (.of main_cst_16) (.of main_cst_17) (.of main_v13) main_call7 (.of main_v32) (.of main_v19) (.of main_v34) (.of main_v35) ++
    (hornerOps 0xBB88E4EF#32 0x3C1AA57E#32 (.of main_cst_18) (.of main_cst_19) (.of main_v13) main_call8 (.of main_v35) (.of main_v19) (.of main_v37) (.of main_v38) ++
    (hornerOps 0x3E7C8F63#32 0x3F8036DB#32 (.of main_cst_20) (.of main_cst_21) (.of main_v13) main_call9 (.of main_v38) (.of main_v19) (.of main_v40) (.of main_v41) ++
    (hornerOps 0x3FC02E2F#32 0x40354F7E#32 (.of main_cst_22) (.of main_cst_23) (.of main_v13) main_call10 (.of main_v41) (.of main_v19) (.of main_v43) (.of main_v44)))))))))

/-- The polynomial times `x`, the ends of the interval set apart, times the root of two. -/
def main.lastOps : List (HloOp τ sig (Elt F)) :=
  [ TRef.unary (.of main_v7) (.of main_v45) Host.absf,
    TRef.nullary (.of main_cst_24) (constant S_ .f32 0x3F800000#32),
    TRef.unary (.of main_cst_24) (.of main_v46) spread,
    TRef.binary (.of main_v45) (.of main_v46) (.of main_v47) (cmpf .oeq),
    TRef.nullary (.of main_cst_25) (constant S_ .f32 0x7F800000#32),
    TRef.unary (.of main_cst_25) (.of main_v48) spread,
    TRef.binary (.of main_v7) (.of main_v48) (.of main_v49) mulf,
    TRef.binary (.of main_v44) (.of main_v7) (.of main_v50) mulf,
    TRef.ternary (.of main_v47) (.of main_v49) (.of main_v50) main_call11.v0 select,
    TRef.nullary (.of main_cst_26) (constant S_ .f32 0x3FB504F3#32),
    TRef.unary (.of main_cst_26) (.of main_v52) spread,
    TRef.binary (.of main_v52) (.of main_v51) (.of main_v53) mulf ]

/-- The whole program. -/
def main.ops : List (HloOp τ sig (Elt F)) :=
  main.keyOps ++ (uniformOps (.of main_v6) (.of main_cst) (.of main_cst_2) main_call0 ++
    (main.logOps ++ (main.polyOps ++ main.lastOps)))

end Cert.ReferenceIdeal.Line
-- ==== Proof.RefWords.lean ====
module

public import proofs.«01_k».proof.Proof.RefOps
public import proofs.«01_k».proof.Proof.Threefry
public import Idealize.ShloMosaic.Lib.Pipeline.Value

/-!
# The reference's words

What the reference's words are at an index, from the operations' equations: the counter of the element at row-major
place `n` is `(0, n)` (`counter_at`), a list `mixOps` carries the pair of words at an index through `Rng.mix`, `keyOps`
through `Rng.key`, and so the whole of threefry through `Rng.threefry` (`threefry_at`).
-/

@[expose] public section

noncomputable section

namespace Cert.ReferenceIdeal.Line

open Cert.ReferenceIdeal Cert.ReferenceIdeal.Gen Cert.Host
open Idealize.ShloMosaic Idealize.ShloMosaic.TcCoe Idealize.ShloMosaic.StableHlo

variable {F : FTy → Type} [FloatOps F] {W : Valuation τ sig (Elt F)}

/-- The one index of a value of no dimension. -/
abbrev pt : S_.Idx := fun a => a.elim0

/-- The one index of a vector of one, and the two of a vector of two. -/
abbrev one₀ : S1.Idx := fun a => ⟨0, (by decide : ∀ a : Fin S1.rank, 0 < S1.size a) a⟩
abbrev two₀ : S2.Idx := fun a => ⟨0, (by decide : ∀ a : Fin S2.rank, 0 < S2.size a) a⟩
abbrev two₁ : S2.Idx := fun a => ⟨1, (by decide : ∀ a : Fin S2.rank, 1 < S2.size a) a⟩

theorem pt_eq (j : S_.Idx) : j = pt := funext fun a => a.elim0

/-- A spread value is its one element everywhere. -/
theorem spread_at {α : Type} (x : S_.Idx → α) (i : S2x80x128x128.Idx) : spread x i = x pt := congrArg x (pt_eq _)

theorem shl_at {r : BitVec 32} (hr : r.toNat < 32) (x : BitVec 32) : IntOp.shli .host x r = x <<< r := if_pos hr
theorem shr_at {r : BitVec 32} (hr : r.toNat < 32) (x : BitVec 32) : IntOp.shrui .host x r = x >>> r := if_pos hr

/-- A round's operations carry the two words at an index through the round. -/
theorem mix_at {r s : BitVec 32} {a b a' : Ws} {c : W1} {d e : Ws} {c' : W1} {d' e' o b' : Ws}
    (h : AllSettled W (mixOps r s a b a' c d e c' d' e' o b')) (hr : r.toNat < 32) (hs : s.toNat < 32)
    {i : S2x80x128x128.Idx} {p : BitVec 32 × BitVec 32} (hp : (rd W a i, rd W b i) = p) :
    (rd W a' i, rd W b' i) = Rng.mix r s p := by
  subst hp
  obtain ⟨e1, h⟩ := h.cons; obtain ⟨e2, h⟩ := h.cons; obtain ⟨e3, h⟩ := h.cons
  obtain ⟨e4, h⟩ := h.cons; obtain ⟨e5, h⟩ := h.cons; obtain ⟨e6, h⟩ := h.cons
  obtain ⟨e7, h⟩ := h.cons; obtain ⟨e8, h⟩ := h.cons; obtain ⟨e9, h⟩ := h.cons
  have ha : rd W a' i = rd W a i + rd W b i := congrFun (at_binary e1) i
  have he : rd W e i = rd W b i <<< r := by
    rw [at_binary e4, at_unary e3, at_nullary e2]; exact shl_at hr _
  have he' : rd W e' i = rd W b i >>> s := by
    rw [at_binary e7, at_unary e6, at_nullary e5]; exact shr_at hs _
  have ho : rd W o i = rd W b i <<< r ||| rd W b i >>> s := by
    rw [← he, ← he']; exact congrFun (at_binary e8) i
  have hb : rd W b' i = rd W a' i ^^^ rd W o i := congrFun (at_binary e9) i
  rw [hb, ha, ho]; rfl

/-- A key addition's operations carry the two words at an index through the key addition. -/
theorem key_at {n : BitVec 32} {k l : W1} {a b d a' d' e : Ws} {c : W1} {d'' b' : Ws}
    (h : AllSettled W (keyOps n k l a b d a' d' e c d'' b')) {κ l' : BitVec 32} (hk : rd W k pt = κ) (hl : rd W l pt = l')
    {i : S2x80x128x128.Idx} {p : BitVec 32 × BitVec 32} (hp : (rd W a i, rd W b i) = p) :
    (rd W a' i, rd W b' i) = Rng.key n κ l' p := by
  subst hp hk hl
  obtain ⟨e1, h⟩ := h.cons; obtain ⟨e2, h⟩ := h.cons; obtain ⟨e3, h⟩ := h.cons
  obtain ⟨e4, h⟩ := h.cons; obtain ⟨e5, h⟩ := h.cons; obtain ⟨e6, h⟩ := h.cons
  obtain ⟨e7, h⟩ := h.cons
  have ha : rd W a' i = rd W a i + rd W k pt := by
    rw [at_binary e2, at_unary e1]; exact congrArg (_ + ·) (spread_at _ i)
  have he : rd W e i = rd W b i + rd W l pt := by
    rw [at_binary e4, at_unary e3]; exact congrArg (_ + ·) (spread_at _ i)
  have hb : rd W b' i = rd W e i + n := by
    rw [at_binary e7, at_unary e6, at_nullary e5]; rfl
  rw [ha, hb, he]; rfl

section
variable {arg0 arg1 : W1} {arg2 arg3 : Ws} {φ : fn_threefry2x32.Bufs} {k₀ k₁ k₂ : BitVec 32} {i : S2x80x128x128.Idx}
  {p : BitVec 32 × BitVec 32}

theorem group0_at (h : AllSettled W (groupOps0 arg1 φ)) (h1 : rd W arg1 pt = k₁) (h2 : rd W φ.v1 pt = k₂)
    (hp : (rd W φ.v3 i, rd W φ.v5 i) = p) : (rd W φ.v35 i, rd W φ.v39 i) = Rng.key 1#32 k₁ k₂ (Rng.roundsA p) := by
  obtain ⟨m1, h⟩ := h.append; obtain ⟨m2, h⟩ := h.append; obtain ⟨m3, h⟩ := h.append; obtain ⟨m4, h⟩ := h.append
  exact key_at h h1 h2 (mix_at m4 (by decide) (by decide) (mix_at m3 (by decide) (by decide)
    (mix_at m2 (by decide) (by decide) (mix_at m1 (by decide) (by decide) hp))))

theorem group1_at (h : AllSettled W (groupOps1 arg0 φ)) (h0 : rd W arg0 pt = k₀) (h2 : rd W φ.v1 pt = k₂)
    (hp : (rd W φ.v35 i, rd W φ.v39 i) = p) : (rd W φ.v69 i, rd W φ.v73 i) = Rng.key 2#32 k₂ k₀ (Rng.roundsB p) := by
  obtain ⟨m1, h⟩ := h.append; obtain ⟨m2, h⟩ := h.append; obtain ⟨m3, h⟩ := h.append; obtain ⟨m4, h⟩ := h.append
  exact key_at h h2 h0 (mix_at m4 (by decide) (by decide) (mix_at m3 (by decide) (by decide)
    (mix_at m2 (by decide) (by decide) (mix_at m1 (by decide) (by decide) hp))))

theorem group2_at (h : AllSettled W (groupOps2 arg0 arg1 φ)) (h0 : rd W arg0 pt = k₀) (h1 : rd W arg1 pt = k₁)
    (hp : (rd W φ.v69 i, rd W φ.v73 i) = p) : (rd W φ.v103 i, rd W φ.v107 i) = Rng.key 3#32 k₀ k₁ (Rng.roundsA p) := by
  obtain ⟨m1, h⟩ := h.append; obtain ⟨m2, h⟩ := h.append; obtain ⟨m3, h⟩ := h.append; obtain ⟨m4, h⟩ := h.append
  exact key_at h h0 h1 (mix_at m4 (by decide) (by decide) (mix_at m3 (by decide) (by decide)
    (mix_at m2 (by decide) (by decide) (mix_at m1 (by decide) (by decide) hp))))

theorem group3_at (h : AllSettled W (groupOps3 arg1 φ)) (h1 : rd W arg1 pt = k₁) (h2 : rd W φ.v1 pt = k₂)
    (hp : (rd W φ.v103 i, rd W φ.v107 i) = p) : (rd W φ.v137 i, rd W φ.v141 i) = Rng.key 4#32 k₁ k₂ (Rng.roundsB p) := by
  obtain ⟨m1, h⟩ := h.append; obtain ⟨m2, h⟩ := h.append; obtain ⟨m3, h⟩ := h.append; obtain ⟨m4, h⟩ := h.append
  exact key_at h h1 h2 (mix_at m4 (by decide) (by decide) (mix_at m3 (by decide) (by decide)
    (mix_at m2 (by decide) (by decide) (mix_at m1 (by decide) (by decide) hp))))

theorem group4_at (h : AllSettled W (groupOps4 arg0 φ)) (h0 : rd W arg0 pt = k₀) (h2 : rd W φ.v1 pt = k₂)
    (hp : (rd W φ.v137 i, rd W φ.v141 i) = p) : (rd W φ.v171 i, rd W φ.v175 i) = Rng.key 5#32 k₂ k₀ (Rng.roundsA p) := by
  obtain ⟨m1, h⟩ := h.append; obtain ⟨m2, h⟩ := h.append; obtain ⟨m3, h⟩ := h.append; obtain ⟨m4, h⟩ := h.append
  exact key_at h h2 h0 (mix_at m4 (by decide) (by decide) (mix_at m3 (by decide) (by decide)
    (mix_at m2 (by decide) (by decide) (mix_at m1 (by decide) (by decide) hp))))

/-- The two words at an index after all of threefry. -/
theorem threefry_at (h : AllSettled W (threefryOps arg0 arg1 arg2 arg3 φ)) (h0 : rd W arg0 pt = k₀)
    (h1 : rd W arg1 pt = k₁) (hp : (rd W arg2 i, rd W arg3 i) = p) :
    (rd W φ.v171 i, rd W φ.v175 i) = Rng.threefry k₀ k₁ p := by
  subst hp
  obtain ⟨s, h⟩ := h.append
  obtain ⟨g0, h⟩ := h.append; obtain ⟨g1, h⟩ := h.append; obtain ⟨g2, h⟩ := h.append; obtain ⟨g3, g4⟩ := h.append
  obtain ⟨e1, s⟩ := s.cons; obtain ⟨e2, s⟩ := s.cons; obtain ⟨e3, s⟩ := s.cons; obtain ⟨e4, s⟩ := s.cons
  obtain ⟨e5, s⟩ := s.cons; obtain ⟨e6, s⟩ := s.cons; obtain ⟨e7, s⟩ := s.cons
  have h2 : rd W φ.v1 pt = Rng.parity k₀ k₁ := by
    subst h0 h1
    rw [at_binary e3, at_nullary e2, at_binary e1]; rfl
  have hs : (rd W φ.v3 i, rd W φ.v5 i) = (rd W arg2 i + k₀, rd W arg3 i + k₁) := by
    subst h0 h1
    have a : rd W φ.v3 i = rd W arg2 i + rd W arg0 pt := by
      rw [at_binary e5, at_unary e4]; exact congrArg (_ + ·) (spread_at _ i)
    have b : rd W φ.v5 i = rd W arg3 i + rd W arg1 pt := by
      rw [at_binary e7, at_unary e6]; exact congrArg (_ + ·) (spread_at _ i)
    rw [a, b]
  exact group4_at g4 h0 h2 (group3_at g3 h1 h2 (group2_at g2 h0 h1 (group1_at g1 h0 h2 (group0_at g0 h1 h2 hs))))
end

/-- The row-major place of an index of the result. -/
def placeOf (i : S2x80x128x128.Idx) : ℕ := Rng.place (i 0).val (i 1).val (i 2).val (i 3).val

theorem placeOf_lt (i : S2x80x128x128.Idx) : placeOf i < 2 ^ 32 := by
  have h0 : (i 0).val < 2 := (i 0).isLt
  have h1 : (i 1).val < 80 := (i 1).isLt
  have h2 : (i 2).val < 128 := (i 2).isLt
  have h3 : (i 3).val < 128 := (i 3).isLt
  unfold placeOf Rng.place
  omega

section
variable {arg0 : TRef sig ⟨S2, .i32⟩} {arg1 arg2 : F1} {φ : fn_uniform.Bufs}

/-- The counter of the element at place `n` is `(0, n)`. -/
theorem counter_at (h : AllSettled W (counterOps arg0 arg1 arg2 φ)) (i : S2x80x128x128.Idx) :
    (rd W φ.v24 i, rd W φ.v23 i) = (0#32, BitVec.ofNat 32 (placeOf i)) := by
  obtain ⟨-, h⟩ := h.cons; obtain ⟨-, h⟩ := h.cons; obtain ⟨-, h⟩ := h.cons; obtain ⟨-, h⟩ := h.cons
  obtain ⟨-, h⟩ := h.cons; obtain ⟨-, h⟩ := h.cons
  obtain ⟨e6, h⟩ := h.cons; obtain ⟨e7, h⟩ := h.cons; obtain ⟨e8, h⟩ := h.cons; obtain ⟨e9, h⟩ := h.cons
  obtain ⟨c0, h⟩ := h.cons; obtain ⟨e10, h⟩ := h.cons; obtain ⟨e11, h⟩ := h.cons
  obtain ⟨c1, h⟩ := h.cons; obtain ⟨e12, h⟩ := h.cons; obtain ⟨e13, h⟩ := h.cons
  obtain ⟨c2, h⟩ := h.cons; obtain ⟨e14, h⟩ := h.cons; obtain ⟨e15, h⟩ := h.cons
  obtain ⟨c3, h⟩ := h.cons; obtain ⟨e16, h⟩ := h.cons; obtain ⟨e17, h⟩ := h.cons
  obtain ⟨e18, h⟩ := h.cons; obtain ⟨e19, h⟩ := h.cons; obtain ⟨e20, h⟩ := h.cons
  obtain ⟨c4, h⟩ := h.cons; obtain ⟨e21, h⟩ := h.cons; obtain ⟨e22, h⟩ := h.cons
  obtain ⟨e23, h⟩ := h.cons; obtain ⟨e24, h⟩ := h.cons
  have a0 : rd W φ.v11 i = 1310720#64 * BitVec.ofNat 64 (i 0).val := by
    rw [at_binary e11, at_unary e10, at_nullary c0, at_nullary e6]; rfl
  have a1 : rd W φ.v13 i = 16384#64 * BitVec.ofNat 64 (i 1).val := by
    rw [at_binary e13, at_unary e12, at_nullary c1, at_nullary e7]; rfl
  have a2 : rd W φ.v15 i = 128#64 * BitVec.ofNat 64 (i 2).val := by
    rw [at_binary e15, at_unary e14, at_nullary c2, at_nullary e8]; rfl
  have a3 : rd W φ.v17 i = 1#64 * BitVec.ofNat 64 (i 3).val := by
    rw [at_binary e17, at_unary e16, at_nullary c3, at_nullary e9]; rfl
  have s : rd W φ.v20 i = BitVec.ofNat 64 (placeOf i) := by
    have : rd W φ.v20 i = rd W φ.v11 i + rd W φ.v13 i + rd W φ.v15 i + rd W φ.v17 i := by
      rw [at_binary e20, at_binary e19, at_binary e18]; rfl
    rw [this, a0, a1, a2, a3, placeOf, Rng.place]
    simp only [BitVec.ofNat_add, BitVec.ofNat_mul]
    simp
  have lo : rd W φ.v23 i = BitVec.ofNat 32 (placeOf i) := by
    have : rd W φ.v23 i = (rd W φ.v20 i).setWidth 32 := by rw [at_unary e23]; rfl
    rw [this, s]
    exact BitVec.setWidth_ofNat_of_le (by decide) _
  have hi : rd W φ.v24 i = 0#32 := by
    have : rd W φ.v24 i = (rd W φ.v20 i >>> 32#64).setWidth 32 := by
      rw [at_unary e24, at_binary e22, at_unary e21, at_nullary c4]; rfl
    rw [this, s]
    apply BitVec.eq_of_toNat_eq
    have := placeOf_lt i
    simp [BitVec.toNat_setWidth, BitVec.toNat_ushiftRight, Nat.shiftRight_eq_div_pow]
    omega
  rw [hi, lo]

/-- The two key words the generator is called with are the key's two elements. -/
theorem key_words (h : AllSettled W (counterOps arg0 arg1 arg2 φ)) :
    rd W φ.v3 pt = rd W arg0 two₀ ∧ rd W φ.v5 pt = rd W arg0 two₁ := by
  obtain ⟨-, h⟩ := h.cons; obtain ⟨-, h⟩ := h.cons
  obtain ⟨e2, h⟩ := h.cons; obtain ⟨e3, h⟩ := h.cons; obtain ⟨e4, h⟩ := h.cons; obtain ⟨e5, h⟩ := h.cons
  have one (j : S1.Idx) (a : Fin 1) : (j a).val = 0 := by
    have h : (j a).val < S1.size a := (j a).isLt
    have : S1.size a = 1 := by fin_cases a; rfl
    omega
  constructor
  · rw [at_reshape e3, at_unary e2]
    refine congrArg (rd W arg0) (funext fun a => Fin.ext ?_)
    fin_cases a
    exact congrArg (0 + ·) (one _ 0)
  · rw [at_reshape e5, at_unary e4]
    refine congrArg (rd W arg0) (funext fun a => Fin.ext ?_)
    fin_cases a
    exact congrArg (1 + ·) (one _ 0)
end

/-- The two elements of a vector of two put together from one each. -/
theorem two_at {α : Type} (a b : S1.Idx → α) :
    concatenate S2 0 [⟨S1, a⟩, ⟨S1, b⟩] concatenates_S1_S1_S2_d0 two₀ = a one₀ ∧
      concatenate S2 0 [⟨S1, a⟩, ⟨S1, b⟩] concatenates_S1_S1_S2_d0 two₁ = b one₀ :=
  ⟨concatenate_pair_apply_left (t := S2) (s₁ := S1) (s₂ := S1) 0 a b _ two₀ rfl one₀ (by decide),
    concatenate_pair_apply_right (t := S2) (s₁ := S1) (s₂ := S1) 0 a b _ two₁ rfl rfl one₀ (by decide) (by decide)⟩

/-- The key's two halves, before they are put together, and the key. -/
abbrev half₁ : TRef sig ⟨S1, .i32⟩ := .of main_v2
abbrev half₂ : TRef sig ⟨S1, .i32⟩ := .of main_v5
abbrev wholeKey : TRef sig ⟨S2, .i32⟩ := .of main_v6

/-- The key is `(0, 2)`. -/
theorem main_key (h : AllSettled W main.keyOps) :
    rd W wholeKey two₀ = 0#32 ∧
      rd W wholeKey two₁ = 2#32 := by
  obtain ⟨e0, h⟩ := h.cons; obtain ⟨e1, h⟩ := h.cons; obtain ⟨e2, h⟩ := h.cons; obtain ⟨e3, h⟩ := h.cons
  obtain ⟨e4, h⟩ := h.cons; obtain ⟨e5, h⟩ := h.cons; obtain ⟨e6, h⟩ := h.cons; obtain ⟨e7, h⟩ := h.cons
  obtain ⟨e8, h⟩ := h.cons; obtain ⟨e9, h⟩ := h.cons
  have a : ∀ j, rd W half₁ j = 0#32 := by
    intro j
    rw [at_unary e4, at_unary e3, at_binary e2, at_nullary e0, at_nullary e1]
    show IntOp.shrui .host 2#32 32#32 = 0#32
    decide
  have b : ∀ j, rd W half₂ j = 2#32 := by
    intro j
    rw [at_unary e8, at_unary e7, at_binary e6, at_nullary e0, at_nullary e5]
    show 2#32 &&& 4294967295#32 = 2#32
    decide
  rw [at_binary e9]
  exact ⟨(two_at _ _).1.trans (a _), (two_at _ _).2.trans (b _)⟩

end Cert.ReferenceIdeal.Line
-- ==== Proof.RefValue.lean ====
module

public import proofs.«01_k».proof.Proof.RefWords
public import proofs.«01_k».proof.Proof.Normal

/-!
# The reference's result

At every index the reference's result is `Rng.normal` of the index's row-major place (`result_at`): the words make the
uniform deviate (`uniform_at`), the choices of coefficients make one of the two polynomials (`poly_at`), and the
clause for the ends of the interval is not taken because the deviate lies inside it.
-/

@[expose] public section

noncomputable section

namespace Cert.ReferenceIdeal.Line

open Cert.ReferenceIdeal Cert.ReferenceIdeal.Gen Cert.Host
open Idealize.ShloMosaic Idealize.ShloMosaic.TcCoe Idealize.ShloMosaic.StableHlo

variable {W : Valuation τ sig (Elt Ideal)}

section
variable {arg0 : TRef sig ⟨S2, .i32⟩} {arg1 arg2 : F1} {φ : fn_uniform.Bufs} {i : S2x80x128x128.Idx}

/-- The interval's two ends, kept as arrays of one element. -/
theorem ends_at (h : AllSettled W (counterOps arg0 arg1 arg2 φ)) (j : S1x1x1x1.Idx) :
    rd W φ.v0 j = rd W arg1 pt ∧ rd W φ.v1 j = rd W arg2 pt := by
  obtain ⟨e0, h⟩ := h.cons; obtain ⟨e1, h⟩ := h.cons
  rw [at_unary e0, at_unary e1]
  exact ⟨congrArg (rd W arg1) (pt_eq _), congrArg (rd W arg2) (pt_eq _)⟩

/-- The word at an index makes its uniform deviate. -/
theorem float_at (h : AllSettled W (floatOps φ)) (lo : ∀ j, rd W φ.v0 j = Rng.bit 0xBF7FFFFF#32)
    (hi : ∀ j, rd W φ.v1 j = Rng.bit 0x3F800000#32) :
    rd W φ.v40 i = Rng.uniform (rd W φ.call0.v171 i ^^^ rd W φ.call0.v175 i) := by
  obtain ⟨e26, h⟩ := h.cons; obtain ⟨c4, h⟩ := h.cons; obtain ⟨e27, h⟩ := h.cons; obtain ⟨e28, h⟩ := h.cons
  obtain ⟨c5, h⟩ := h.cons; obtain ⟨e29, h⟩ := h.cons; obtain ⟨e30, h⟩ := h.cons; obtain ⟨e31, h⟩ := h.cons
  obtain ⟨c6, h⟩ := h.cons; obtain ⟨e32, h⟩ := h.cons; obtain ⟨e33, h⟩ := h.cons; obtain ⟨e34, h⟩ := h.cons
  obtain ⟨e35, h⟩ := h.cons; obtain ⟨e36, h⟩ := h.cons; obtain ⟨e37, h⟩ := h.cons; obtain ⟨e38, h⟩ := h.cons
  obtain ⟨e39, h⟩ := h.cons; obtain ⟨e40, h⟩ := h.cons
  have w : rd W φ.v28 i = (rd W φ.call0.v171 i ^^^ rd W φ.call0.v175 i) >>> 9#32 := by
    rw [at_binary e28, at_unary e27, at_nullary c4, at_binary e26]
    exact shr_at (r := 9#32) (by decide) _
  have o : rd W φ.v30 i = rd W φ.v28 i ||| 1065353216#32 := by
    rw [at_binary e30, at_unary e29, at_nullary c5]; rfl
  have f : rd W φ.v33 i = Rng.bit (rd W φ.v30 i) - Rng.bit 0x3F800000#32 := by
    rw [at_binary e33, at_unary e32, at_nullary c6, at_unary e31]; rfl
  have s : rd W φ.v35 i = Rng.bit 0x3F800000#32 - Rng.bit 0xBF7FFFFF#32 := by
    rw [at_unary e35, at_binary e34]
    exact congrArg₂ (fun a b : EReal => a - b) (hi _) (lo _)
  have l : rd W φ.v37 i = Rng.bit 0xBF7FFFFF#32 := by
    rw [at_unary e37]; exact lo _
  have l' : rd W φ.v39 i = Rng.bit 0xBF7FFFFF#32 := by
    rw [at_unary e39]; exact lo _
  have u : rd W φ.v40 i = max (rd W φ.v39 i : EReal) ((rd W φ.v33 i : EReal) * rd W φ.v35 i + rd W φ.v37 i) := by
    rw [at_binary e40, at_binary e38, at_binary e36]; rfl
  rw [u, l', f, o, w, s, l]
  rfl

/-- The uniform deviate at an index is that of the index's place. -/
theorem uniform_at (h : AllSettled W (uniformOps arg0 arg1 arg2 φ)) (k₀ : rd W arg0 two₀ = 0#32) (k₁ : rd W arg0 two₁ = 2#32)
    (lo : rd W arg1 pt = Rng.bit 0xBF7FFFFF#32) (hi : rd W arg2 pt = Rng.bit 0x3F800000#32) :
    rd W φ.v40 i = Rng.uniform (Rng.word (BitVec.ofNat 32 (placeOf i))) := by
  obtain ⟨c, h⟩ := h.append
  obtain ⟨t, f⟩ := h.append
  have w := threefry_at t ((key_words c).1.trans k₀) ((key_words c).2.trans k₁) (counter_at c i)
  rw [float_at f (fun j => (ends_at c j).1.trans lo) (fun j => (ends_at c j).2.trans hi),
    show rd W φ.call0.v171 i = _ from congrArg Prod.fst w, show rd W φ.call0.v175 i = _ from congrArg Prod.snd w]
  rfl
end

/-- A chosen coefficient. -/
theorem coef_at {k l : BitVec 32} {kb lb : F1} {lt : TRef sig ⟨S2x80x128x128, .i1⟩} {φ : fn_where_0.Bufs}
    (h : AllSettled W (coefOps k l kb lb lt φ)) (i : S2x80x128x128.Idx) :
    rd W φ.v2 i = Rng.bit (if rd W lt i = 1#1 then k else l) := by
  obtain ⟨e1, h⟩ := h.cons; obtain ⟨e2, h⟩ := h.cons; obtain ⟨e3, h⟩ := h.cons; obtain ⟨e4, h⟩ := h.cons
  obtain ⟨e5, h⟩ := h.cons
  rw [at_ternary e5, at_unary e3, at_unary e4, at_nullary e1, at_nullary e2]
  exact (apply_ite Rng.bit _ _ _).symm

/-- A step of Horner's scheme. -/
theorem horner_at {k l : BitVec 32} {kb lb : F1} {lt : TRef sig ⟨S2x80x128x128, .i1⟩} {φ : fn_where_0.Bufs} {p w m q : Fs}
    (h : AllSettled W (hornerOps k l kb lb lt φ p w m q)) (i : S2x80x128x128.Idx) :
    rd W q i = Rng.bit (if rd W lt i = 1#1 then k else l) + (rd W p i : EReal) * rd W w i := by
  obtain ⟨c, h⟩ := h.append
  obtain ⟨e1, h⟩ := h.cons; obtain ⟨e2, h⟩ := h.cons
  rw [at_binary e2, at_binary e1]
  exact congrArg (fun a : EReal => a + (rd W p i : EReal) * rd W w i) (coef_at c i)

/-- The reference's uniform deviates, the condition, the shifted `w`, and the polynomial. -/
abbrev deviate : Fs := .of main_v7
abbrev isNear : TRef sig ⟨S2x80x128x128, .i1⟩ := .of main_v13
abbrev shifted : Fs := .of main_v19
abbrev poly : Fs := .of main_v44

/-- The polynomial at an index is the one its condition chooses. -/
theorem poly_at (h : AllSettled W main.polyOps) (i : S2x80x128x128.Idx) :
    rd W poly i = if rd W isNear i = 1#1 then Rng.near (rd W shifted i) else Rng.far (rd W shifted i) := by
  obtain ⟨p0, h⟩ := h.append; obtain ⟨p1, h⟩ := h.append; obtain ⟨p2, h⟩ := h.append; obtain ⟨p3, h⟩ := h.append
  obtain ⟨p4, h⟩ := h.append; obtain ⟨p5, h⟩ := h.append; obtain ⟨p6, h⟩ := h.append; obtain ⟨p7, p8⟩ := h.append
  have q0 := coef_at p0 i
  have q1 := horner_at p1 i; have q2 := horner_at p2 i; have q3 := horner_at p3 i; have q4 := horner_at p4 i
  have q5 := horner_at p5 i; have q6 := horner_at p6 i; have q7 := horner_at p7 i; have q8 := horner_at p8 i
  split_ifs with hc
  · rw [if_pos hc] at q0 q1 q2 q3 q4 q5 q6 q7 q8
    refine q8.trans ?_
    rw [q7, q6, q5, q4, q3, q2, q1]
    erw [q0]
    rfl
  · rw [if_neg hc] at q0 q1 q2 q3 q4 q5 q6 q7 q8
    refine q8.trans ?_
    rw [q7, q6, q5, q4, q3, q2, q1]
    erw [q0]
    rfl

/-- The condition, and the shifted `w`. -/
theorem log_at (h : AllSettled W main.logOps) (i : S2x80x128x128.Idx) :
    (rd W isNear i = 1#1 ↔ Rng.logTerm (rd W deviate i) < Rng.bit 0x40A00000#32) ∧
      rd W shifted i = if rd W isNear i = 1#1 then Rng.logTerm (rd W deviate i) - Rng.bit 0x40200000#32
        else Ideal.sqrt (Rng.logTerm (rd W deviate i)) - Rng.bit 0x40400000#32 := by
  obtain ⟨e8, h⟩ := h.cons; obtain ⟨e9, h⟩ := h.cons; obtain ⟨e10, h⟩ := h.cons; obtain ⟨e11, h⟩ := h.cons
  obtain ⟨c3, h⟩ := h.cons; obtain ⟨e12, h⟩ := h.cons; obtain ⟨e13, h⟩ := h.cons
  obtain ⟨c4, h⟩ := h.cons; obtain ⟨e14, h⟩ := h.cons; obtain ⟨e15, h⟩ := h.cons; obtain ⟨e16, h⟩ := h.cons
  obtain ⟨c5, h⟩ := h.cons; obtain ⟨e17, h⟩ := h.cons; obtain ⟨e18, h⟩ := h.cons; obtain ⟨e19, h⟩ := h.cons
  have w : rd W (.of main_v11 : Fs) i = Rng.logTerm (rd W deviate i) := by
    rw [at_unary e11, at_unary e10, at_binary e9, at_unary e8]; rfl
  rw [← w]
  constructor
  · rw [at_binary e13, at_unary e12, at_nullary c3]
    exact Rng.bit_set
  · refine (congrFun (at_ternary e19) i).trans ?_
    show (if _ then _ else _) = _
    rw [at_binary e15, at_unary e14, at_nullary c4, at_binary e18, at_unary e17, at_nullary c5, at_unary e16]
    rfl

/-- The result at an index is the normal deviate of the index's place. -/
theorem result_at (h : AllSettled W main.ops) (i : S2x80x128x128.Idx) :
    rd W (.of main_v53 : Fs) i = Rng.normal (BitVec.ofNat 32 (placeOf i)) := by
  obtain ⟨k, h⟩ := h.append
  obtain ⟨u, h⟩ := h.append
  obtain ⟨l, h⟩ := h.append
  obtain ⟨p, h⟩ := h.append
  have hk := main_key k
  have hu : rd W deviate i = Rng.uniform (Rng.word (BitVec.ofNat 32 (placeOf i))) := by
    have ends : rd W (.of main_cst : F1) pt = Rng.bit 0xBF7FFFFF#32 ∧ rd W (.of main_cst_2 : F1) pt = Rng.bit 0x3F800000#32 := by
      obtain ⟨-, k⟩ := k.cons; obtain ⟨-, k⟩ := k.cons; obtain ⟨-, k⟩ := k.cons; obtain ⟨-, k⟩ := k.cons
      obtain ⟨-, k⟩ := k.cons; obtain ⟨-, k⟩ := k.cons; obtain ⟨-, k⟩ := k.cons; obtain ⟨-, k⟩ := k.cons
      obtain ⟨-, k⟩ := k.cons; obtain ⟨-, k⟩ := k.cons; obtain ⟨a, k⟩ := k.cons; obtain ⟨b, k⟩ := k.cons
      rw [at_nullary a, at_nullary b]
      exact ⟨rfl, rfl⟩
    exact uniform_at u hk.1 hk.2 ends.1 ends.2
  have hq : rd W poly i = _ := poly_at p i
  obtain ⟨hc, hs⟩ := log_at l i
  have hv : (rd W poly i : EReal) * rd W deviate i = Rng.erfInv (rd W deviate i) := by
    rw [hq, hs, Rng.erfInv]
    by_cases c : rd W isNear i = 1#1
    · simp only [if_pos c, if_pos (hc.1 c)]
    · simp only [if_neg c, if_neg (mt hc.2 c)]
  obtain ⟨e45, h⟩ := h.cons; obtain ⟨c24, h⟩ := h.cons; obtain ⟨e46, h⟩ := h.cons; obtain ⟨e47, h⟩ := h.cons
  obtain ⟨c25, h⟩ := h.cons; obtain ⟨e48, h⟩ := h.cons; obtain ⟨e49, h⟩ := h.cons; obtain ⟨e50, h⟩ := h.cons
  obtain ⟨e51, h⟩ := h.cons; obtain ⟨c26, h⟩ := h.cons; obtain ⟨e52, h⟩ := h.cons; obtain ⟨e53, h⟩ := h.cons
  have inside : rd W (.of main_v47 : TRef sig ⟨S2x80x128x128, .i1⟩) i ≠ 1#1 := by
    rw [at_binary e47, at_unary e46, at_nullary c24, at_unary e45]
    show BitVec.ofBool (decide (max (rd W deviate i : EReal) (-(rd W deviate i : EReal)) = Rng.bit 0x3F800000#32)) ≠ 1#1
    obtain ⟨r, hr, h1, h2⟩ := Rng.uniform_inside (Rng.word (BitVec.ofNat 32 (placeOf i)))
    rw [hu, hr, Rng.bit_one, Ne, Rng.bit_set, ← EReal.coe_neg]
    exact ne_of_lt (max_lt (EReal.coe_lt_coe_iff.2 h2) (EReal.coe_lt_coe_iff.2 (by linarith)))
  have hl : rd W (.of main_v51 : Fs) i = Rng.erfInv (rd W deviate i) := by
    refine (congrFun (at_ternary e51) i).trans ((if_neg inside).trans ?_)
    rw [at_binary e50]
    exact hv
  rw [at_binary e53, at_unary e52, at_nullary c26, Rng.normal, ← hu, ← hl]
  rfl

end Cert.ReferenceIdeal.Line
-- ==== Proof.RefRun.lean ====
module

public import proofs.«01_k».proof.Proof.RefOps
public import Idealize.ShloMosaic.Lib.Pipeline.Frame

/-!
# The run of the reference

`main_eq` says that the program is its list of operations; `numbered` that operation `k` of the list writes buffer
`6 + k` and reads earlier ones; `run` that every run of the program ends, on every device, in a memory where every
operation's equation holds and the arguments are as launched.
-/

@[expose] public section

noncomputable section

namespace Cert.ReferenceIdeal.Line

open Cert.ReferenceIdeal Cert.ReferenceIdeal.Gen Cert.Host
open Idealize.ShloMosaic Idealize.ShloMosaic.TcCoe Idealize.SL.Sem Idealize.ShloMosaic.StableHlo

variable {F : FTy → Type} [FloatOps F]

set_option maxRecDepth 16384 in
set_option maxHeartbeats 4000000 in
/-- The program is the list of its operations. -/
theorem main_eq (c : Dev nD) : main (F := F) c = seq main.ops := rfl

/-! ### The operations are numbered -/

theorem numbered_at {n : ℕ} (k : ℕ) {ops₁ ops₂ : List (HloOp τ sig (Elt F))} (h : n + ops₁.length = k) (h₁ : Numbered n ops₁)
    (h₂ : Numbered k ops₂) : Numbered n (ops₁ ++ ops₂) := numbered_append h₁ (h ▸ h₂)

theorem numbered_mixOps {n : ℕ} {r s : BitVec 32} {a b a' : Ws} {c : W1} {d e : Ws} {c' : W1} {d' e' o b' : Ws}
    (hs : [a', d, e, d', e', o, b'].map (num ·.ref) = [n, n + 2, n + 3, n + 5, n + 6, n + 7, n + 8])
    (hc : [c, c'].map (num ·.ref) = [n + 1, n + 4]) (ha : num a.ref < n) (hb : num b.ref < n) :
    Numbered n (mixOps (F := F) r s a b a' c d e c' d' e' o b') := by
  simp only [List.map_cons, List.map_nil, List.cons.injEq, and_true] at hs hc
  obtain ⟨h0, h2, h3, h5, h6, h7, h8⟩ := hs
  obtain ⟨h1, h4⟩ := hc
  refine ⟨writes_binary _ _ _ _ h0 ha hb, writes_nullary _ _ h1, writes_unary _ _ _ h2 ?_, writes_binary _ _ _ _ h3 ?_ ?_,
    writes_nullary _ _ h4, writes_unary _ _ _ h5 ?_, writes_binary _ _ _ _ h6 ?_ ?_, writes_binary _ _ _ _ h7 ?_ ?_,
    writes_binary _ _ _ _ h8 ?_ ?_, trivial⟩ <;> omega

theorem numbered_keyOps {n : ℕ} {k₀ : BitVec 32} {k l : W1} {a b d a' d' e : Ws} {c : W1} {d'' b' : Ws}
    (hs : [d, a', d', e, d'', b'].map (num ·.ref) = [n, n + 1, n + 2, n + 3, n + 5, n + 6])
    (hc : num c.ref = n + 4) (hk : num k.ref < n) (hl : num l.ref < n) (ha : num a.ref < n) (hb : num b.ref < n) :
    Numbered n (keyOps (F := F) k₀ k l a b d a' d' e c d'' b') := by
  simp only [List.map_cons, List.map_nil, List.cons.injEq, and_true] at hs
  obtain ⟨h0, h1, h2, h3, h5, h6⟩ := hs
  refine ⟨writes_unary _ _ _ h0 hk, writes_binary _ _ _ _ h1 ?_ ?_, writes_unary _ _ _ h2 ?_, writes_binary _ _ _ _ h3 ?_ ?_,
    writes_nullary _ _ hc, writes_unary _ _ _ h5 ?_, writes_binary _ _ _ _ h6 ?_ ?_, trivial⟩ <;> omega

theorem numbered_coefOps {n : ℕ} {k l : BitVec 32} {kb lb : F1} {lt : TRef sig ⟨S2x80x128x128, .i1⟩} {φ : fn_where_0.Bufs}
    (hc : [kb, lb].map (num ·.ref) = [n, n + 1]) (hs : [φ.v0, φ.v1, φ.v2].map (num ·.ref) = [n + 2, n + 3, n + 4])
    (hl : num lt.ref < n) : Numbered n (coefOps (F := F) k l kb lb lt φ) := by
  simp only [List.map_cons, List.map_nil, List.cons.injEq, and_true] at hs hc
  obtain ⟨h2, h3, h4⟩ := hs
  obtain ⟨h0, h1⟩ := hc
  refine ⟨writes_nullary _ _ h0, writes_nullary _ _ h1, writes_unary _ _ _ h2 ?_, writes_unary _ _ _ h3 ?_,
    writes_ternary _ _ _ _ _ h4 ?_ ?_ ?_, trivial⟩ <;> omega

theorem numbered_hornerOps {n : ℕ} {k l : BitVec 32} {kb lb : F1} {lt : TRef sig ⟨S2x80x128x128, .i1⟩} {φ : fn_where_0.Bufs}
    {p w m q : Fs} (hc : [kb, lb].map (num ·.ref) = [n, n + 1])
    (hs : [φ.v0, φ.v1, φ.v2, m, q].map (num ·.ref) = [n + 2, n + 3, n + 4, n + 5, n + 6])
    (hl : num lt.ref < n) (hp : num p.ref < n) (hw : num w.ref < n) :
    Numbered n (hornerOps (F := F) k l kb lb lt φ p w m q) := by
  simp only [List.map_cons, List.map_nil, List.cons.injEq, and_true] at hs
  obtain ⟨h2, h3, h4, h5, h6⟩ := hs
  refine numbered_append (numbered_coefOps hc ?_ hl) ⟨writes_binary _ _ _ _ h5 ?_ ?_, writes_binary _ _ _ _ h6 ?_ ?_, trivial⟩
  · simp only [List.map_cons, List.map_nil, h2, h3, h4]
  all_goals simp only [coefOps, List.length_cons, List.length_nil]; omega

set_option maxRecDepth 8192 in
theorem numbered_key : Numbered 6 (main.keyOps (F := F)) :=
  ⟨writes_nullary _ _ rfl, writes_nullary _ _ rfl, writes_binary _ _ _ _ rfl (by decide) (by decide),
    writes_unary _ _ _ rfl (by decide), writes_unary _ _ _ rfl (by decide), writes_nullary _ _ rfl,
    writes_binary _ _ _ _ rfl (by decide) (by decide), writes_unary _ _ _ rfl (by decide),
    writes_unary _ _ _ rfl (by decide), writes_binary _ _ _ _ rfl (by decide) (by decide), writes_nullary _ _ rfl,
    writes_nullary _ _ rfl, trivial⟩

set_option maxRecDepth 8192 in
theorem numbered_counter : Numbered 18 (counterOps (F := F) (.of main_v6) (.of main_cst) (.of main_cst_2) main_call0) :=
  ⟨writes_unary _ _ _ rfl (by decide), writes_unary _ _ _ rfl (by decide), writes_unary _ _ _ rfl (by decide),
    writes_reshape _ _ _ _ rfl (by decide), writes_unary _ _ _ rfl (by decide),
    writes_reshape _ _ _ _ rfl (by decide), writes_nullary _ _ rfl, writes_nullary _ _ rfl, writes_nullary _ _ rfl,
    writes_nullary _ _ rfl, writes_nullary _ _ rfl, writes_unary _ _ _ rfl (by decide),
    writes_binary _ _ _ _ rfl (by decide) (by decide), writes_nullary _ _ rfl, writes_unary _ _ _ rfl (by decide),
    writes_binary _ _ _ _ rfl (by decide) (by decide), writes_nullary _ _ rfl, writes_unary _ _ _ rfl (by decide),
    writes_binary _ _ _ _ rfl (by decide) (by decide), writes_nullary _ _ rfl, writes_unary _ _ _ rfl (by decide),
    writes_binary _ _ _ _ rfl (by decide) (by decide), writes_binary _ _ _ _ rfl (by decide) (by decide),
    writes_binary _ _ _ _ rfl (by decide) (by decide), writes_binary _ _ _ _ rfl (by decide) (by decide),
    writes_nullary _ _ rfl, writes_unary _ _ _ rfl (by decide), writes_binary _ _ _ _ rfl (by decide) (by decide),
    writes_unary _ _ _ rfl (by decide), writes_unary _ _ _ rfl (by decide), trivial⟩

set_option maxRecDepth 8192 in
theorem numbered_setup : Numbered 48 (setupOps (F := F) main_call0.v3 main_call0.v5 main_call0.v24 main_call0.v23 main_call0.call0) :=
  ⟨writes_binary _ _ _ _ rfl (by decide) (by decide), writes_nullary _ _ rfl,
    writes_binary _ _ _ _ rfl (by decide) (by decide), writes_unary _ _ _ rfl (by decide),
    writes_binary _ _ _ _ rfl (by decide) (by decide), writes_unary _ _ _ rfl (by decide),
    writes_binary _ _ _ _ rfl (by decide) (by decide), trivial⟩

set_option maxRecDepth 8192 in
theorem numbered_group0 : Numbered 55 (groupOps0 (F := F) main_call0.v5 main_call0.call0) :=
  numbered_at 64 rfl (numbered_mixOps rfl rfl (by decide) (by decide)) (numbered_at 73 rfl (numbered_mixOps rfl rfl (by decide) (by decide))
    (numbered_at 82 rfl (numbered_mixOps rfl rfl (by decide) (by decide)) (numbered_at 91 rfl (numbered_mixOps rfl rfl (by decide) (by decide))
    (numbered_keyOps rfl rfl (by decide) (by decide) (by decide) (by decide)))))

set_option maxRecDepth 8192 in
theorem numbered_group1 : Numbered 98 (groupOps1 (F := F) main_call0.v3 main_call0.call0) :=
  numbered_at 107 rfl (numbered_mixOps rfl rfl (by decide) (by decide)) (numbered_at 116 rfl (numbered_mixOps rfl rfl (by decide) (by decide))
    (numbered_at 125 rfl (numbered_mixOps rfl rfl (by decide) (by decide)) (numbered_at 134 rfl (numbered_mixOps rfl rfl (by decide) (by decide))
    (numbered_keyOps rfl rfl (by decide) (by decide) (by decide) (by decide)))))

set_option maxRecDepth 8192 in
theorem numbered_group2 : Numbered 141 (groupOps2 (F := F) main_call0.v3 main_call0.v5 main_call0.call0) :=
  numbered_at 150 rfl (numbered_mixOps rfl rfl (by decide) (by decide)) (numbered_at 159 rfl (numbered_mixOps rfl rfl (by decide) (by decide))
    (numbered_at 168 rfl (numbered_mixOps rfl rfl (by decide) (by decide)) (numbered_at 177 rfl (numbered_mixOps rfl rfl (by decide) (by decide))
    (numbered_keyOps rfl rfl (by decide) (by decide) (by decide) (by decide)))))

set_option maxRecDepth 8192 in
theorem numbered_group3 : Numbered 184 (groupOps3 (F := F) main_call0.v5 main_call0.call0) :=
  numbered_at 193 rfl (numbered_mixOps rfl rfl (by decide) (by decide)) (numbered_at 202 rfl (numbered_mixOps rfl rfl (by decide) (by decide))
    (numbered_at 211 rfl (numbered_mixOps rfl rfl (by decide) (by decide)) (numbered_at 220 rfl (numbered_mixOps rfl rfl (by decide) (by decide))
    (numbered_keyOps rfl rfl (by decide) (by decide) (by decide) (by decide)))))

set_option maxRecDepth 8192 in
theorem numbered_group4 : Numbered 227 (groupOps4 (F := F) main_call0.v3 main_call0.call0) :=
  numbered_at 236 rfl (numbered_mixOps rfl rfl (by decide) (by decide)) (numbered_at 245 rfl (numbered_mixOps rfl rfl (by decide) (by decide))
    (numbered_at 254 rfl (numbered_mixOps rfl rfl (by decide) (by decide)) (numbered_at 263 rfl (numbered_mixOps rfl rfl (by decide) (by decide))
    (numbered_keyOps rfl rfl (by decide) (by decide) (by decide) (by decide)))))

theorem numbered_threefry : Numbered 48 (threefryOps (F := F) main_call0.v3 main_call0.v5 main_call0.v24 main_call0.v23 main_call0.call0) :=
  numbered_at 55 rfl numbered_setup (numbered_at 98 rfl numbered_group0 (numbered_at 141 rfl numbered_group1
    (numbered_at 184 rfl numbered_group2 (numbered_at 227 rfl numbered_group3 numbered_group4))))

set_option maxRecDepth 8192 in
theorem numbered_float : Numbered 270 (floatOps (F := F) main_call0) :=
  ⟨writes_binary _ _ _ _ rfl (by decide) (by decide), writes_nullary _ _ rfl, writes_unary _ _ _ rfl (by decide),
    writes_binary _ _ _ _ rfl (by decide) (by decide), writes_nullary _ _ rfl, writes_unary _ _ _ rfl (by decide),
    writes_binary _ _ _ _ rfl (by decide) (by decide), writes_unary _ _ _ rfl (by decide), writes_nullary _ _ rfl,
    writes_unary _ _ _ rfl (by decide), writes_binary _ _ _ _ rfl (by decide) (by decide),
    writes_binary _ _ _ _ rfl (by decide) (by decide), writes_unary _ _ _ rfl (by decide),
    writes_binary _ _ _ _ rfl (by decide) (by decide), writes_unary _ _ _ rfl (by decide),
    writes_binary _ _ _ _ rfl (by decide) (by decide), writes_unary _ _ _ rfl (by decide),
    writes_binary _ _ _ _ rfl (by decide) (by decide), trivial⟩

set_option maxRecDepth 8192 in
theorem numbered_log : Numbered 288 (main.logOps (F := F)) :=
  ⟨writes_unary _ _ _ rfl (by decide), writes_binary _ _ _ _ rfl (by decide) (by decide),
    writes_unary _ _ _ rfl (by decide), writes_unary _ _ _ rfl (by decide), writes_nullary _ _ rfl,
    writes_unary _ _ _ rfl (by decide), writes_binary _ _ _ _ rfl (by decide) (by decide), writes_nullary _ _ rfl,
    writes_unary _ _ _ rfl (by decide), writes_binary _ _ _ _ rfl (by decide) (by decide),
    writes_unary _ _ _ rfl (by decide), writes_nullary _ _ rfl, writes_unary _ _ _ rfl (by decide),
    writes_binary _ _ _ _ rfl (by decide) (by decide),
    writes_ternary _ _ _ _ _ rfl (by decide) (by decide) (by decide), trivial⟩

set_option maxRecDepth 8192 in
theorem numbered_poly : Numbered 303 (main.polyOps (F := F)) :=
  numbered_at 308 rfl (numbered_coefOps rfl rfl (by decide)) (numbered_at 315 rfl (numbered_hornerOps rfl rfl (by decide) (by decide) (by decide))
    (numbered_at 322 rfl (numbered_hornerOps rfl rfl (by decide) (by decide) (by decide))
    (numbered_at 329 rfl (numbered_hornerOps rfl rfl (by decide) (by decide) (by decide))
    (numbered_at 336 rfl (numbered_hornerOps rfl rfl (by decide) (by decide) (by decide))
    (numbered_at 343 rfl (numbered_hornerOps rfl rfl (by decide) (by decide) (by decide))
    (numbered_at 350 rfl (numbered_hornerOps rfl rfl (by decide) (by decide) (by decide))
    (numbered_at 357 rfl (numbered_hornerOps rfl rfl (by decide) (by decide) (by decide))
    (numbered_hornerOps rfl rfl (by decide) (by decide) (by decide)))))))))

set_option maxRecDepth 8192 in
theorem numbered_last : Numbered 364 (main.lastOps (F := F)) :=
  ⟨writes_unary _ _ _ rfl (by decide), writes_nullary _ _ rfl, writes_unary _ _ _ rfl (by decide),
    writes_binary _ _ _ _ rfl (by decide) (by decide), writes_nullary _ _ rfl, writes_unary _ _ _ rfl (by decide),
    writes_binary _ _ _ _ rfl (by decide) (by decide), writes_binary _ _ _ _ rfl (by decide) (by decide),
    writes_ternary _ _ _ _ _ rfl (by decide) (by decide) (by decide), writes_nullary _ _ rfl,
    writes_unary _ _ _ rfl (by decide), writes_binary _ _ _ _ rfl (by decide) (by decide), trivial⟩

/-- Operation `k` of the program writes buffer `6 + k`, and reads earlier ones. -/
theorem numbered : Numbered 6 (main.ops (F := F)) :=
  numbered_at 18 rfl numbered_key (numbered_at 288 rfl
    (numbered_at 48 rfl numbered_counter (numbered_at 270 rfl numbered_threefry numbered_float))
    (numbered_at 303 rfl numbered_log (numbered_at 364 rfl numbered_poly numbered_last)))

/-! ### The run -/

theorem no_scoped_ref : (Finset.univ.filter fun b : Ref sig .tc => b.isScoped) = ∅ := by decide
theorem no_scoped_sem : (Finset.univ.filter fun sm : SemLoc sig => sm.isScoped .tc) = ∅ := by decide

/-- Every run of the reference ends, on every device, in a memory `W` in which every operation's equation holds; the
    result is read off `W`, and the arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (∃ W : Valuation τ sig (Elt F), AllSettled W main.ops ∧
        r.2.mem ((c.tc : Thread nD τ).loc main_v53) = rd W (.of main_v53 : Fs)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) := by
  refine (θ_run defs _ _).mono (fun r h c => ?_) (run_seq no_scoped_ref no_scoped_sem defs main (fun _ => main.ops) main_eq
    (fun _ => numbered.sub) m ρ fun _ => numbered.fresh)
  have kept (b : Ref sig .tc) (hb : num b < 6) : r.2.mem ((c.tc : Thread nD τ).loc b) = m ((c.tc : Thread nD τ).loc b) :=
    (h c b).trans (numbered.keep _ b hb)
  exact ⟨⟨_, settled_after numbered _, h c main_v53⟩, kept _ (by decide), kept _ (by decide), kept _ (by decide),
    kept _ (by decide), kept _ (by decide), kept _ (by decide)⟩

end Cert.ReferenceIdeal.Line
-- ==== Proof.Equation.lean ====
module

public import proofs.«01_k».proof.Defs
public import proofs.«01_k».proof.Proof.KernelArray
public import proofs.«01_k».proof.Proof.RefValue
public import proofs.«01_k».proof.Proof.RefRun
public import Idealize.ShloMosaic.Lib.Quiescent

/-!
# The two programs compute one function

At every index both results are the normal deviate of the index's place (`same`), whatever the arguments hold: neither
program reads them.
-/

@[expose] public section

noncomputable section

namespace Cert.Proof

open Idealize.ShloMosaic Idealize.ShloMosaic.TcCoe Idealize.SL.Sem

/-- A memory in which every operation of the reference holds has the kernel's array as its result. -/
theorem same {W : Valuation Cert.ReferenceIdeal.τ Cert.ReferenceIdeal.sig (Elt Ideal)}
    (h : Cert.Host.AllSettled W Cert.ReferenceIdeal.Line.main.ops) (c : Dev Cert.KernelIdeal.nD) :
    Cert.Host.rd W (.of Cert.ReferenceIdeal.main_v53 : Cert.ReferenceIdeal.Line.Fs) = Cert.KernelIdeal.Launch.normals c :=
  funext fun i => Cert.ReferenceIdeal.Line.result_at h i

/-- The equation of the two programs' results. -/
theorem algebraic : Cert.algebraic_KernelIdeal_ReferenceIdeal := fun m g m' g' _ _ =>
  ⟨Cert.KernelIdeal.Launch.normals,
    (θ_run Cert.KernelIdeal.defs _ _).mono
      (fun _ h c => ⟨(h.1 c).1.trans (Cert.KernelIdeal.Launch.array_eq m c), (h.1 c).2⟩) (Cert.KernelIdeal.Launch.run m g),
    (θ_run Cert.ReferenceIdeal.defs _ _).mono
      (fun _ h c => by
        obtain ⟨⟨W, hW, e⟩, k⟩ := h c
        exact ⟨e.trans (same hW c), k⟩) (Cert.ReferenceIdeal.Line.run m' g')⟩

end Cert.Proof
-- ==== Proof.lean ====
module

public import proofs.«01_k».proof.Defs
public import proofs.«01_k».proof.Proof.Run
public import proofs.«01_k».proof.Proof.Equation
public import Idealize.ShloMosaic.PureOps.IdealRules
public import Idealize.ShloMosaic.Lib.Quiescent

@[expose] public section

noncomputable section

namespace Cert.Proof

open Idealize.ShloMosaic Idealize.SL.Sem

/-- The kernel's frame. -/
theorem frame_kernel : Cert.quiescent_Kernel := fun m g _ =>
  (θ_run Cert.Kernel.defs _ _).mono (fun _ h => ⟨fun c => (h.1 c).2, h.2⟩) (Cert.Kernel.Launch.run m g)

/-- The ideal kernel's frame. -/
theorem frame_ideal : Cert.quiescent_KernelIdeal := fun m g _ =>
  (θ_run Cert.KernelIdeal.defs _ _).mono (fun _ h => ⟨fun c => (h.1 c).2, h.2⟩) (Cert.KernelIdeal.Launch.run m g)

/-- The reference's frame; it has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Line.run m g)

/-- The named constant stands where the kernel has two: the interval's length, which rounds to two. -/
theorem named : Cert.preserves_Kernel_KernelIdeal := IdealRules.named_const.statement _ _ _ _ _ rfl

theorem claim : Cert.Claim := ⟨Cert.Kernel.Gen.facts, Cert.KernelIdeal.Gen.facts, Cert.ReferenceIdeal.Gen.facts,
  frame_kernel, frame_ideal, frame_reference, named, algebraic⟩

end Cert.Proof

end
